-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4x512x512 : Shape := ⟨3, ![4, 512, 512]⟩
abbrev S4x4096x2 : Shape := ⟨3, ![4, 4096, 2]⟩
abbrev S_ : Shape := ⟨0, ![]⟩

class Facts : Prop where
  bcast_S_S4x4096x2 : S_.BroadcastsInDim S4x4096x2 (![] : Fin 0 → Fin S4x4096x2.rank)
  reducesTo_S4x4096x2_S_d0_1_2 : S4x4096x2.ReducesTo [0, 1, 2] S_
  h_S_ : 0 < S_.numel

variable [Facts]

def fn {F : FTy → Type} [FloatOps F] (main_arg0 : FVec F S4x512x512 .f32) (main_arg1 : IVec S4x4096x2 32) (main_arg2 : IVec S4x4096x2 32) : IVec S_ 1 :=
  let main_c : IVec S_ 32 := constantI S_ 32 0#32
  let main_v0 : IVec S4x4096x2 32 := broadcastInDim S4x4096x2 ![] bcast_S_S4x4096x2 main_c
  let main_v1 : IVec S4x4096x2 1 := cmpi .sge main_arg1 main_v0
  let main_c_0 : IVec S_ 1 := constantI S_ 1 1#1
  let main_v2 : IVec S_ 1 := (fun x v => Host.reduce IntOp.andi x v reducesTo_S4x4096x2_S_d0_1_2 h_S_) main_v1 main_c_0
  let main_c_1 : IVec S_ 32 := constantI S_ 32 262144#32
  let main_v3 : IVec S4x4096x2 32 := broadcastInDim S4x4096x2 ![] bcast_S_S4x4096x2 main_c_1
  let main_v4 : IVec S4x4096x2 1 := cmpi .slt main_arg1 main_v3
  let main_c_2 : IVec S_ 1 := constantI S_ 1 1#1
  let main_v5 : IVec S_ 1 := (fun x v => Host.reduce IntOp.andi x v reducesTo_S4x4096x2_S_d0_1_2 h_S_) main_v4 main_c_2
  let main_v6 : IVec S_ 1 := andi main_v2 main_v5
  let main_c_3 : IVec S_ 32 := constantI S_ 32 0#32
  let main_v7 : IVec S4x4096x2 32 := broadcastInDim S4x4096x2 ![] bcast_S_S4x4096x2 main_c_3
  let main_v8 : IVec S4x4096x2 1 := cmpi .sge main_arg2 main_v7
  let main_c_4 : IVec S_ 1 := constantI S_ 1 1#1
  let main_v9 : IVec S_ 1 := (fun x v => Host.reduce IntOp.andi x v reducesTo_S4x4096x2_S_d0_1_2 h_S_) main_v8 main_c_4
  let main_v10 : IVec S_ 1 := andi main_v6 main_v9
  let main_c_5 : IVec S_ 32 := constantI S_ 32 262144#32
  let main_v11 : IVec S4x4096x2 32 := broadcastInDim S4x4096x2 ![] bcast_S_S4x4096x2 main_c_5
  let main_v12 : IVec S4x4096x2 1 := cmpi .slt main_arg2 main_v11
  let main_c_6 : IVec S_ 1 := constantI S_ 1 1#1
  let main_v13 : IVec S_ 1 := (fun x v => Host.reduce IntOp.andi x v reducesTo_S4x4096x2_S_d0_1_2 h_S_) main_v12 main_c_6
  let main_v14 : IVec S_ 1 := andi main_v10 main_v13
  main_v14
-- ==== Kernel.lean ====
abbrev S4x512x512 : Shape := ⟨3, ![4, 512, 512]⟩
abbrev S4x4096x2 : Shape := ⟨3, ![4, 4096, 2]⟩
abbrev S1048576 : Shape := ⟨1, ![1048576]⟩
abbrev S4 : Shape := ⟨1, ![4]⟩
abbrev S_ : Shape := ⟨0, ![]⟩
abbrev S4x1x1 : Shape := ⟨3, ![4, 1, 1]⟩
abbrev S4x4x2048 : Shape := ⟨3, ![4, 4, 2048]⟩
abbrev S4x8192x2 : Shape := ⟨3, ![4, 8192, 2]⟩
abbrev S2048 : Shape := ⟨1, ![2048]⟩
abbrev S128x2 : Shape := ⟨2, ![128, 2]⟩
abbrev S1x1x2048 : Shape := ⟨3, ![1, 1, 2048]⟩
abbrev S128 : Shape := ⟨1, ![128]⟩
abbrev S16 : Shape := ⟨1, ![16]⟩
abbrev S1x128x2 : Shape := ⟨3, ![1, 128, 2]⟩

abbrev nBuf : Table → Nat
  | .hbm => 16
  | .local .scVector .vmem => 3
  | _ => 0

abbrev bufTy : (tb : Table) → Fin (nBuf tb) → BufTy
  | .hbm, ⟨0, _⟩ => ⟨S4x512x512, .f32⟩
  | .hbm, ⟨1, _⟩ => ⟨S4x4096x2, .i32⟩
  | .hbm, ⟨2, _⟩ => ⟨S4x4096x2, .i32⟩
  | .hbm, ⟨3, _⟩ => ⟨S1048576, .f32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i32⟩
  | .hbm, ⟨8, _⟩ => ⟨S4x1x1, .i32⟩
  | .hbm, ⟨9, _⟩ => ⟨S4x4096x2, .i32⟩
  | .hbm, ⟨10, _⟩ => ⟨S4x4096x2, .i32⟩
  | .hbm, ⟨11, _⟩ => ⟨S4x4x2048, .i32⟩
  | .hbm, ⟨12, _⟩ => ⟨S4x4096x2, .i32⟩
  | .hbm, ⟨13, _⟩ => ⟨S4x4096x2, .i32⟩
  | .hbm, ⟨14, _⟩ => ⟨S4x4x2048, .i32⟩
  | .hbm, ⟨15, _⟩ => ⟨S4x8192x2, .f32⟩
  | .local .scVector .vmem, ⟨0, _⟩ => ⟨S2048, .i32⟩
  | .local .scVector .vmem, ⟨1, _⟩ => ⟨S2048, .f32⟩
  | .local .scVector .vmem, ⟨2, _⟩ => ⟨S128x2, .f32⟩
  | _, _ => ⟨S4x512x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v7_scv : Ref sig .scVector := ⟨.hbm, 11, rfl⟩
abbrev main_v10_scv : Ref sig .scVector := ⟨.hbm, 14, rfl⟩
abbrev main_v0_scv : Ref sig .scVector := ⟨.hbm, 3, rfl⟩
abbrev main_v11_scv : Ref sig .scVector := ⟨.hbm, 15, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c16_i32 : BitVec 32 := 16#32
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let v2 : BitVec 32 := Scalar.divsi v1 c16_i32
  let c1_i32 : BitVec 32 := 1#32
  let v17 : BitVec 32 := Scalar.subi v2 c1_i32
  let v18 : BitVec 32 := Scalar.select v16 v17 v2
  let c0_i32_22 : BitVec 32 := 0#32
  let v56 : BitVec 1 := Scalar.cmpi .eq v18 c0_i32_22
  let v57 : BitVec 32 := Scalar.extui v56
  let c0_i32_23 : BitVec 32 := 0#32
  let v58 : BitVec 1 := Scalar.cmpi .ne v57 c0_i32_23
  v58

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c0_i32_10 : BitVec 32 := 0#32
  let v30 : BitVec 1 := Scalar.cmpi .sgt v28 c0_i32_10
  let v31 : BitVec 32 := Scalar.extui v30
  let c0_i32_11 : BitVec 32 := 0#32
  let v32 : BitVec 1 := Scalar.cmpi .slt v28 c0_i32_11
  let v33 : BitVec 32 := Scalar.extui v32
  let v34 : BitVec 32 := Scalar.subi v31 v33
  let c4_i32 : BitVec 32 := 4#32
  let c0_i32_12 : BitVec 32 := 0#32
  let v35 : BitVec 1 := Scalar.cmpi .sgt c4_i32 c0_i32_12
  let v36 : BitVec 32 := Scalar.extui v35
  let c0_i32_13 : BitVec 32 := 0#32
  let v37 : BitVec 1 := Scalar.cmpi .slt c4_i32 c0_i32_13
  let v38 : BitVec 32 := Scalar.extui v37
  let v39 : BitVec 32 := Scalar.subi v36 v38
  let v40 : BitVec 1 := Scalar.cmpi .ne v34 v39
  let v41 : BitVec 32 := Scalar.remsi v28 c4_i32
  let c0_i32_14 : BitVec 32 := 0#32
  let v42 : BitVec 1 := Scalar.cmpi .ne v41 c0_i32_14
  let v43 : BitVec 1 := Scalar.andi v40 v42
  let v29 : BitVec 32 := Scalar.divsi v28 c4_i32
  let c1_i32_15 : BitVec 32 := 1#32
  let v44 : BitVec 32 := Scalar.subi v29 c1_i32_15
  let v45 : BitVec 32 := Scalar.select v43 v44 v29
  let c4_i32_16 : BitVec 32 := 4#32
  let c0_i32_17 : BitVec 32 := 0#32
  let v46 : BitVec 1 := Scalar.cmpi .eq c4_i32_16 c0_i32_17
  let c1_i32_18 : BitVec 32 := 1#32
  let v47 : BitVec 32 := Scalar.select v46 c1_i32_18 c4_i32_16
  let v48 : BitVec 32 := Scalar.remsi v28 v47
  let c0_i32_20 : BitVec 32 := 0#32
  let v50 : BitVec 1 := Scalar.cmpi .slt v48 c0_i32_20
  let c0_i32_21 : BitVec 32 := 0#32
  let v51 : BitVec 1 := Scalar.cmpi .slt v47 c0_i32_21
  let v52 : BitVec 1 := Scalar.xori v50 v51
  let c0_i32_19 : BitVec 32 := 0#32
  let v49 : BitVec 1 := Scalar.cmpi .ne v48 c0_i32_19
  let v53 : BitVec 1 := Scalar.andi v52 v49
  let v54 : BitVec 32 := Scalar.addi v48 v47
  let v55 : BitVec 32 := Scalar.select v53 v54 v48
  let c0_i32_114_r0 : BitVec 32 := 0#32
  ![v45.toNat, v55.toNat, 0]
def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c16_i32 : BitVec 32 := 16#32
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let v2 : BitVec 32 := Scalar.divsi v1 c16_i32
  let c1_i32 : BitVec 32 := 1#32
  let v17 : BitVec 32 := Scalar.subi v2 c1_i32
  let v18 : BitVec 32 := Scalar.select v16 v17 v2
  let c1_i32_24 : BitVec 32 := 1#32
  let v59 : BitVec 1 := Scalar.cmpi .eq v18 c1_i32_24
  let v60 : BitVec 32 := Scalar.extui v59
  let c0_i32_25 : BitVec 32 := 0#32
  let v61 : BitVec 1 := Scalar.cmpi .ne v60 c0_i32_25
  v61

def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c0_i32_10 : BitVec 32 := 0#32
  let v30 : BitVec 1 := Scalar.cmpi .sgt v28 c0_i32_10
  let v31 : BitVec 32 := Scalar.extui v30
  let c0_i32_11 : BitVec 32 := 0#32
  let v32 : BitVec 1 := Scalar.cmpi .slt v28 c0_i32_11
  let v33 : BitVec 32 := Scalar.extui v32
  let v34 : BitVec 32 := Scalar.subi v31 v33
  let c4_i32 : BitVec 32 := 4#32
  let c0_i32_12 : BitVec 32 := 0#32
  let v35 : BitVec 1 := Scalar.cmpi .sgt c4_i32 c0_i32_12
  let v36 : BitVec 32 := Scalar.extui v35
  let c0_i32_13 : BitVec 32 := 0#32
  let v37 : BitVec 1 := Scalar.cmpi .slt c4_i32 c0_i32_13
  let v38 : BitVec 32 := Scalar.extui v37
  let v39 : BitVec 32 := Scalar.subi v36 v38
  let v40 : BitVec 1 := Scalar.cmpi .ne v34 v39
  let v41 : BitVec 32 := Scalar.remsi v28 c4_i32
  let c0_i32_14 : BitVec 32 := 0#32
  let v42 : BitVec 1 := Scalar.cmpi .ne v41 c0_i32_14
  let v43 : BitVec 1 := Scalar.andi v40 v42
  let v29 : BitVec 32 := Scalar.divsi v28 c4_i32
  let c1_i32_15 : BitVec 32 := 1#32
  let v44 : BitVec 32 := Scalar.subi v29 c1_i32_15
  let v45 : BitVec 32 := Scalar.select v43 v44 v29
  let c4_i32_16 : BitVec 32 := 4#32
  let c0_i32_17 : BitVec 32 := 0#32
  let v46 : BitVec 1 := Scalar.cmpi .eq c4_i32_16 c0_i32_17
  let c1_i32_18 : BitVec 32 := 1#32
  let v47 : BitVec 32 := Scalar.select v46 c1_i32_18 c4_i32_16
  let v48 : BitVec 32 := Scalar.remsi v28 v47
  let c0_i32_20 : BitVec 32 := 0#32
  let v50 : BitVec 1 := Scalar.cmpi .slt v48 c0_i32_20
  let c0_i32_21 : BitVec 32 := 0#32
  let v51 : BitVec 1 := Scalar.cmpi .slt v47 c0_i32_21
  let v52 : BitVec 1 := Scalar.xori v50 v51
  let c0_i32_19 : BitVec 32 := 0#32
  let v49 : BitVec 1 := Scalar.cmpi .ne v48 c0_i32_19
  let v53 : BitVec 1 := Scalar.andi v52 v49
  let v54 : BitVec 32 := Scalar.addi v48 v47
  let v55 : BitVec 32 := Scalar.select v53 v54 v48
  let c0_i32_114_r1 : BitVec 32 := 0#32
  ![v45.toNat, v55.toNat, 0]
@[reducible] def k0_t1_loop : Scf.Loop 32 :=
  let c0_i32_111 : BitVec 32 := 0#32
  let c8_i32 : BitVec 32 := 8#32
  let v166 : BitVec 32 := Scalar.addi c0_i32_111 c8_i32
  let c1_i32_112 : BitVec 32 := 1#32
  ⟨c0_i32_111, v166, c1_i32_112⟩
def k0_off3 (k0_t1 : Fin k0_t1_loop.trips) : Fin 1 → Nat :=
  let c0_i32_111 : BitVec 32 := 0#32
  let c1_i32_112 : BitVec 32 := 1#32
  let arg10 : BitVec 32 := Scf.iv c0_i32_111 c1_i32_112 k0_t1
  let c2_i32_114 : BitVec 32 := 2#32
  let v167 : BitVec 32 := Scalar.muli arg10 c2_i32_114
  let c128_i32_115 : BitVec 32 := 128#32
  let v168 : BitVec 32 := Scalar.muli v167 c128_i32_115
  let c0_i32_116 : BitVec 32 := 0#32
  let v169 : BitVec 32 := Scalar.addi v168 c0_i32_116
  let v170 : Index := Scalar.indexCast v169
  ![v170.toNat]

def k0_chk1 (v162 : IVec S16 32) (v173 : IVec S16 32) : Prop :=
  (∀ a x, ((![v173, v162] : Fin 2 → IVec S16 32) a x).toNat < S128x2.size a)
theorem k0_idx1_inb : ∀ (v162 : IVec S16 32) (v173 : IVec S16 32) (k0_hw1 : k0_chk1 v162 v173), ∀ a x, ((![v173, v162] : Fin 2 → IVec S16 32) a x).toNat < S128x2.size a := fun v162 v173 k0_hw1 => k0_hw1
def k0_off4 (k0_t1 : Fin k0_t1_loop.trips) : Fin 1 → Nat :=
  let c0_i32_111 : BitVec 32 := 0#32
  let c1_i32_112 : BitVec 32 := 1#32
  let arg10 : BitVec 32 := Scf.iv c0_i32_111 c1_i32_112 k0_t1
  let c2_i32_118 : BitVec 32 := 2#32
  let v174 : BitVec 32 := Scalar.muli arg10 c2_i32_118
  let c128_i32_119 : BitVec 32 := 128#32
  let v175 : BitVec 32 := Scalar.muli v174 c128_i32_119
  let c16_i32_120 : BitVec 32 := 16#32
  let v176 : BitVec 32 := Scalar.addi v175 c16_i32_120
  let v177 : Index := Scalar.indexCast v176
  ![v177.toNat]

def k0_chk2 (v162 : IVec S16 32) (v180 : IVec S16 32) : Prop :=
  (∀ a x, ((![v180, v162] : Fin 2 → IVec S16 32) a x).toNat < S128x2.size a)
theorem k0_idx2_inb : ∀ (v162 : IVec S16 32) (v180 : IVec S16 32) (k0_hw2 : k0_chk2 v162 v180), ∀ a x, ((![v180, v162] : Fin 2 → IVec S16 32) a x).toNat < S128x2.size a := fun v162 v180 k0_hw2 => k0_hw2
def k0_off5 (k0_t1 : Fin k0_t1_loop.trips) : Fin 1 → Nat :=
  let c0_i32_111 : BitVec 32 := 0#32
  let c1_i32_112 : BitVec 32 := 1#32
  let arg10 : BitVec 32 := Scf.iv c0_i32_111 c1_i32_112 k0_t1
  let c2_i32_122 : BitVec 32 := 2#32
  let v181 : BitVec 32 := Scalar.muli arg10 c2_i32_122
  let c128_i32_123 : BitVec 32 := 128#32
  let v182 : BitVec 32 := Scalar.muli v181 c128_i32_123
  let c32_i32 : BitVec 32 := 32#32
  let v183 : BitVec 32 := Scalar.addi v182 c32_i32
  let v184 : Index := Scalar.indexCast v183
  ![v184.toNat]

def k0_chk3 (v162 : IVec S16 32) (v187 : IVec S16 32) : Prop :=
  (∀ a x, ((![v187, v162] : Fin 2 → IVec S16 32) a x).toNat < S128x2.size a)
theorem k0_idx3_inb : ∀ (v162 : IVec S16 32) (v187 : IVec S16 32) (k0_hw3 : k0_chk3 v162 v187), ∀ a x, ((![v187, v162] : Fin 2 → IVec S16 32) a x).toNat < S128x2.size a := fun v162 v187 k0_hw3 => k0_hw3
def k0_off6 (k0_t1 : Fin k0_t1_loop.trips) : Fin 1 → Nat :=
  let c0_i32_111 : BitVec 32 := 0#32
  let c1_i32_112 : BitVec 32 := 1#32
  let arg10 : BitVec 32 := Scf.iv c0_i32_111 c1_i32_112 k0_t1
  let c2_i32_125 : BitVec 32 := 2#32
  let v188 : BitVec 32 := Scalar.muli arg10 c2_i32_125
  let c128_i32_126 : BitVec 32 := 128#32
  let v189 : BitVec 32 := Scalar.muli v188 c128_i32_126
  let c48_i32 : BitVec 32 := 48#32
  let v190 : BitVec 32 := Scalar.addi v189 c48_i32
  let v191 : Index := Scalar.indexCast v190
  ![v191.toNat]

def k0_chk4 (v162 : IVec S16 32) (v194 : IVec S16 32) : Prop :=
  (∀ a x, ((![v194, v162] : Fin 2 → IVec S16 32) a x).toNat < S128x2.size a)
theorem k0_idx4_inb : ∀ (v162 : IVec S16 32) (v194 : IVec S16 32) (k0_hw4 : k0_chk4 v162 v194), ∀ a x, ((![v194, v162] : Fin 2 → IVec S16 32) a x).toNat < S128x2.size a := fun v162 v194 k0_hw4 => k0_hw4
def k0_off7 (k0_t1 : Fin k0_t1_loop.trips) : Fin 1 → Nat :=
  let c0_i32_111 : BitVec 32 := 0#32
  let c1_i32_112 : BitVec 32 := 1#32
  let arg10 : BitVec 32 := Scf.iv c0_i32_111 c1_i32_112 k0_t1
  let c2_i32_127 : BitVec 32 := 2#32
  let v195 : BitVec 32 := Scalar.muli arg10 c2_i32_127
  let c128_i32_128 : BitVec 32 := 128#32
  let v196 : BitVec 32 := Scalar.muli v195 c128_i32_128
  let c64_i32 : BitVec 32 := 64#32
  let v197 : BitVec 32 := Scalar.addi v196 c64_i32
  let v198 : Index := Scalar.indexCast v197
  ![v198.toNat]

def k0_chk5 (v162 : IVec S16 32) (v201 : IVec S16 32) : Prop :=
  (∀ a x, ((![v201, v162] : Fin 2 → IVec S16 32) a x).toNat < S128x2.size a)
theorem k0_idx5_inb : ∀ (v162 : IVec S16 32) (v201 : IVec S16 32) (k0_hw5 : k0_chk5 v162 v201), ∀ a x, ((![v201, v162] : Fin 2 → IVec S16 32) a x).toNat < S128x2.size a := fun v162 v201 k0_hw5 => k0_hw5
def k0_off8 (k0_t1 : Fin k0_t1_loop.trips) : Fin 1 → Nat :=
  let c0_i32_111 : BitVec 32 := 0#32
  let c1_i32_112 : BitVec 32 := 1#32
  let arg10 : BitVec 32 := Scf.iv c0_i32_111 c1_i32_112 k0_t1
  let c2_i32_130 : BitVec 32 := 2#32
  let v202 : BitVec 32 := Scalar.muli arg10 c2_i32_130
  let c128_i32_131 : BitVec 32 := 128#32
  let v203 : BitVec 32 := Scalar.muli v202 c128_i32_131
  let c80_i32 : BitVec 32 := 80#32
  let v204 : BitVec 32 := Scalar.addi v203 c80_i32
  let v205 : Index := Scalar.indexCast v204
  ![v205.toNat]

def k0_chk6 (v162 : IVec S16 32) (v208 : IVec S16 32) : Prop :=
  (∀ a x, ((![v208, v162] : Fin 2 → IVec S16 32) a x).toNat < S128x2.size a)
theorem k0_idx6_inb : ∀ (v162 : IVec S16 32) (v208 : IVec S16 32) (k0_hw6 : k0_chk6 v162 v208), ∀ a x, ((![v208, v162] : Fin 2 → IVec S16 32) a x).toNat < S128x2.size a := fun v162 v208 k0_hw6 => k0_hw6
def k0_off9 (k0_t1 : Fin k0_t1_loop.trips) : Fin 1 → Nat :=
  let c0_i32_111 : BitVec 32 := 0#32
  let c1_i32_112 : BitVec 32 := 1#32
  let arg10 : BitVec 32 := Scf.iv c0_i32_111 c1_i32_112 k0_t1
  let c2_i32_132 : BitVec 32 := 2#32
  let v209 : BitVec 32 := Scalar.muli arg10 c2_i32_132
  let c128_i32_133 : BitVec 32 := 128#32
  let v210 : BitVec 32 := Scalar.muli v209 c128_i32_133
  let c96_i32 : BitVec 32 := 96#32
  let v211 : BitVec 32 := Scalar.addi v210 c96_i32
  let v212 : Index := Scalar.indexCast v211
  ![v212.toNat]

def k0_chk7 (v162 : IVec S16 32) (v215 : IVec S16 32) : Prop :=
  (∀ a x, ((![v215, v162] : Fin 2 → IVec S16 32) a x).toNat < S128x2.size a)
theorem k0_idx7_inb : ∀ (v162 : IVec S16 32) (v215 : IVec S16 32) (k0_hw7 : k0_chk7 v162 v215), ∀ a x, ((![v215, v162] : Fin 2 → IVec S16 32) a x).toNat < S128x2.size a := fun v162 v215 k0_hw7 => k0_hw7
def k0_off10 (k0_t1 : Fin k0_t1_loop.trips) : Fin 1 → Nat :=
  let c0_i32_111 : BitVec 32 := 0#32
  let c1_i32_112 : BitVec 32 := 1#32
  let arg10 : BitVec 32 := Scf.iv c0_i32_111 c1_i32_112 k0_t1
  let c2_i32_135 : BitVec 32 := 2#32
  let v216 : BitVec 32 := Scalar.muli arg10 c2_i32_135
  let c128_i32_136 : BitVec 32 := 128#32
  let v217 : BitVec 32 := Scalar.muli v216 c128_i32_136
  let c112_i32 : BitVec 32 := 112#32
  let v218 : BitVec 32 := Scalar.addi v217 c112_i32
  let v219 : Index := Scalar.indexCast v218
  ![v219.toNat]

def k0_chk8 (v162 : IVec S16 32) (v222 : IVec S16 32) : Prop :=
  (∀ a x, ((![v222, v162] : Fin 2 → IVec S16 32) a x).toNat < S128x2.size a)
theorem k0_idx8_inb : ∀ (v162 : IVec S16 32) (v222 : IVec S16 32) (k0_hw8 : k0_chk8 v162 v222), ∀ a x, ((![v222, v162] : Fin 2 → IVec S16 32) a x).toNat < S128x2.size a := fun v162 v222 k0_hw8 => k0_hw8
def k0_off11 (k0_t1 : Fin k0_t1_loop.trips) : Fin 1 → Nat :=
  let c0_i32_111 : BitVec 32 := 0#32
  let c1_i32_112 : BitVec 32 := 1#32
  let arg10 : BitVec 32 := Scf.iv c0_i32_111 c1_i32_112 k0_t1
  let c2_i32_137 : BitVec 32 := 2#32
  let v223 : BitVec 32 := Scalar.muli arg10 c2_i32_137
  let c128_i32_138 : BitVec 32 := 128#32
  let v224 : BitVec 32 := Scalar.muli v223 c128_i32_138
  let c128_i32_139 : BitVec 32 := 128#32
  let v225 : BitVec 32 := Scalar.addi v224 c128_i32_139
  let v226 : Index := Scalar.indexCast v225
  ![v226.toNat]

def k0_chk9 (v162 : IVec S16 32) (v229 : IVec S16 32) : Prop :=
  (∀ a x, ((![v229, v162] : Fin 2 → IVec S16 32) a x).toNat < S128x2.size a)
theorem k0_idx9_inb : ∀ (v162 : IVec S16 32) (v229 : IVec S16 32) (k0_hw9 : k0_chk9 v162 v229), ∀ a x, ((![v229, v162] : Fin 2 → IVec S16 32) a x).toNat < S128x2.size a := fun v162 v229 k0_hw9 => k0_hw9
def k0_off12 (k0_t1 : Fin k0_t1_loop.trips) : Fin 1 → Nat :=
  let c0_i32_111 : BitVec 32 := 0#32
  let c1_i32_112 : BitVec 32 := 1#32
  let arg10 : BitVec 32 := Scf.iv c0_i32_111 c1_i32_112 k0_t1
  let c2_i32_141 : BitVec 32 := 2#32
  let v230 : BitVec 32 := Scalar.muli arg10 c2_i32_141
  let c128_i32_142 : BitVec 32 := 128#32
  let v231 : BitVec 32 := Scalar.muli v230 c128_i32_142
  let c144_i32 : BitVec 32 := 144#32
  let v232 : BitVec 32 := Scalar.addi v231 c144_i32
  let v233 : Index := Scalar.indexCast v232
  ![v233.toNat]

def k0_chk10 (v162 : IVec S16 32) (v236 : IVec S16 32) : Prop :=
  (∀ a x, ((![v236, v162] : Fin 2 → IVec S16 32) a x).toNat < S128x2.size a)
theorem k0_idx10_inb : ∀ (v162 : IVec S16 32) (v236 : IVec S16 32) (k0_hw10 : k0_chk10 v162 v236), ∀ a x, ((![v236, v162] : Fin 2 → IVec S16 32) a x).toNat < S128x2.size a := fun v162 v236 k0_hw10 => k0_hw10
def k0_off13 (k0_t1 : Fin k0_t1_loop.trips) : Fin 1 → Nat :=
  let c0_i32_111 : BitVec 32 := 0#32
  let c1_i32_112 : BitVec 32 := 1#32
  let arg10 : BitVec 32 := Scf.iv c0_i32_111 c1_i32_112 k0_t1
  let c2_i32_143 : BitVec 32 := 2#32
  let v237 : BitVec 32 := Scalar.muli arg10 c2_i32_143
  let c128_i32_144 : BitVec 32 := 128#32
  let v238 : BitVec 32 := Scalar.muli v237 c128_i32_144
  let c160_i32 : BitVec 32 := 160#32
  let v239 : BitVec 32 := Scalar.addi v238 c160_i32
  let v240 : Index := Scalar.indexCast v239
  ![v240.toNat]

def k0_chk11 (v162 : IVec S16 32) (v243 : IVec S16 32) : Prop :=
  (∀ a x, ((![v243, v162] : Fin 2 → IVec S16 32) a x).toNat < S128x2.size a)
theorem k0_idx11_inb : ∀ (v162 : IVec S16 32) (v243 : IVec S16 32) (k0_hw11 : k0_chk11 v162 v243), ∀ a x, ((![v243, v162] : Fin 2 → IVec S16 32) a x).toNat < S128x2.size a := fun v162 v243 k0_hw11 => k0_hw11
def k0_off14 (k0_t1 : Fin k0_t1_loop.trips) : Fin 1 → Nat :=
  let c0_i32_111 : BitVec 32 := 0#32
  let c1_i32_112 : BitVec 32 := 1#32
  let arg10 : BitVec 32 := Scf.iv c0_i32_111 c1_i32_112 k0_t1
  let c2_i32_146 : BitVec 32 := 2#32
  let v244 : BitVec 32 := Scalar.muli arg10 c2_i32_146
  let c128_i32_147 : BitVec 32 := 128#32
  let v245 : BitVec 32 := Scalar.muli v244 c128_i32_147
  let c176_i32 : BitVec 32 := 176#32
  let v246 : BitVec 32 := Scalar.addi v245 c176_i32
  let v247 : Index := Scalar.indexCast v246
  ![v247.toNat]

def k0_chk12 (v162 : IVec S16 32) (v250 : IVec S16 32) : Prop :=
  (∀ a x, ((![v250, v162] : Fin 2 → IVec S16 32) a x).toNat < S128x2.size a)
theorem k0_idx12_inb : ∀ (v162 : IVec S16 32) (v250 : IVec S16 32) (k0_hw12 : k0_chk12 v162 v250), ∀ a x, ((![v250, v162] : Fin 2 → IVec S16 32) a x).toNat < S128x2.size a := fun v162 v250 k0_hw12 => k0_hw12
def k0_off15 (k0_t1 : Fin k0_t1_loop.trips) : Fin 1 → Nat :=
  let c0_i32_111 : BitVec 32 := 0#32
  let c1_i32_112 : BitVec 32 := 1#32
  let arg10 : BitVec 32 := Scf.iv c0_i32_111 c1_i32_112 k0_t1
  let c2_i32_148 : BitVec 32 := 2#32
  let v251 : BitVec 32 := Scalar.muli arg10 c2_i32_148
  let c128_i32_149 : BitVec 32 := 128#32
  let v252 : BitVec 32 := Scalar.muli v251 c128_i32_149
  let c192_i32 : BitVec 32 := 192#32
  let v253 : BitVec 32 := Scalar.addi v252 c192_i32
  let v254 : Index := Scalar.indexCast v253
  ![v254.toNat]

def k0_chk13 (v162 : IVec S16 32) (v257 : IVec S16 32) : Prop :=
  (∀ a x, ((![v257, v162] : Fin 2 → IVec S16 32) a x).toNat < S128x2.size a)
theorem k0_idx13_inb : ∀ (v162 : IVec S16 32) (v257 : IVec S16 32) (k0_hw13 : k0_chk13 v162 v257), ∀ a x, ((![v257, v162] : Fin 2 → IVec S16 32) a x).toNat < S128x2.size a := fun v162 v257 k0_hw13 => k0_hw13
def k0_off16 (k0_t1 : Fin k0_t1_loop.trips) : Fin 1 → Nat :=
  let c0_i32_111 : BitVec 32 := 0#32
  let c1_i32_112 : BitVec 32 := 1#32
  let arg10 : BitVec 32 := Scf.iv c0_i32_111 c1_i32_112 k0_t1
  let c2_i32_151 : BitVec 32 := 2#32
  let v258 : BitVec 32 := Scalar.muli arg10 c2_i32_151
  let c128_i32_152 : BitVec 32 := 128#32
  let v259 : BitVec 32 := Scalar.muli v258 c128_i32_152
  let c208_i32 : BitVec 32 := 208#32
  let v260 : BitVec 32 := Scalar.addi v259 c208_i32
  let v261 : Index := Scalar.indexCast v260
  ![v261.toNat]

def k0_chk14 (v162 : IVec S16 32) (v264 : IVec S16 32) : Prop :=
  (∀ a x, ((![v264, v162] : Fin 2 → IVec S16 32) a x).toNat < S128x2.size a)
theorem k0_idx14_inb : ∀ (v162 : IVec S16 32) (v264 : IVec S16 32) (k0_hw14 : k0_chk14 v162 v264), ∀ a x, ((![v264, v162] : Fin 2 → IVec S16 32) a x).toNat < S128x2.size a := fun v162 v264 k0_hw14 => k0_hw14
def k0_off17 (k0_t1 : Fin k0_t1_loop.trips) : Fin 1 → Nat :=
  let c0_i32_111 : BitVec 32 := 0#32
  let c1_i32_112 : BitVec 32 := 1#32
  let arg10 : BitVec 32 := Scf.iv c0_i32_111 c1_i32_112 k0_t1
  let c2_i32_153 : BitVec 32 := 2#32
  let v265 : BitVec 32 := Scalar.muli arg10 c2_i32_153
  let c128_i32_154 : BitVec 32 := 128#32
  let v266 : BitVec 32 := Scalar.muli v265 c128_i32_154
  let c224_i32 : BitVec 32 := 224#32
  let v267 : BitVec 32 := Scalar.addi v266 c224_i32
  let v268 : Index := Scalar.indexCast v267
  ![v268.toNat]

def k0_chk15 (v162 : IVec S16 32) (v271 : IVec S16 32) : Prop :=
  (∀ a x, ((![v271, v162] : Fin 2 → IVec S16 32) a x).toNat < S128x2.size a)
theorem k0_idx15_inb : ∀ (v162 : IVec S16 32) (v271 : IVec S16 32) (k0_hw15 : k0_chk15 v162 v271), ∀ a x, ((![v271, v162] : Fin 2 → IVec S16 32) a x).toNat < S128x2.size a := fun v162 v271 k0_hw15 => k0_hw15
def k0_off18 (k0_t1 : Fin k0_t1_loop.trips) : Fin 1 → Nat :=
  let c0_i32_111 : BitVec 32 := 0#32
  let c1_i32_112 : BitVec 32 := 1#32
  let arg10 : BitVec 32 := Scf.iv c0_i32_111 c1_i32_112 k0_t1
  let c2_i32_156 : BitVec 32 := 2#32
  let v272 : BitVec 32 := Scalar.muli arg10 c2_i32_156
  let c128_i32_157 : BitVec 32 := 128#32
  let v273 : BitVec 32 := Scalar.muli v272 c128_i32_157
  let c240_i32 : BitVec 32 := 240#32
  let v274 : BitVec 32 := Scalar.addi v273 c240_i32
  let v275 : Index := Scalar.indexCast v274
  ![v275.toNat]

def k0_chk16 (v162 : IVec S16 32) (v278 : IVec S16 32) : Prop :=
  (∀ a x, ((![v278, v162] : Fin 2 → IVec S16 32) a x).toNat < S128x2.size a)
theorem k0_idx16_inb : ∀ (v162 : IVec S16 32) (v278 : IVec S16 32) (k0_hw16 : k0_chk16 v162 v278), ∀ a x, ((![v278, v162] : Fin 2 → IVec S16 32) a x).toNat < S128x2.size a := fun v162 v278 k0_hw16 => k0_hw16
def k0_off19 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c0_i32_10 : BitVec 32 := 0#32
  let v30 : BitVec 1 := Scalar.cmpi .sgt v28 c0_i32_10
  let v31 : BitVec 32 := Scalar.extui v30
  let c0_i32_11 : BitVec 32 := 0#32
  let v32 : BitVec 1 := Scalar.cmpi .slt v28 c0_i32_11
  let v33 : BitVec 32 := Scalar.extui v32
  let v34 : BitVec 32 := Scalar.subi v31 v33
  let c4_i32 : BitVec 32 := 4#32
  let c0_i32_12 : BitVec 32 := 0#32
  let v35 : BitVec 1 := Scalar.cmpi .sgt c4_i32 c0_i32_12
  let v36 : BitVec 32 := Scalar.extui v35
  let c0_i32_13 : BitVec 32 := 0#32
  let v37 : BitVec 1 := Scalar.cmpi .slt c4_i32 c0_i32_13
  let v38 : BitVec 32 := Scalar.extui v37
  let v39 : BitVec 32 := Scalar.subi v36 v38
  let v40 : BitVec 1 := Scalar.cmpi .ne v34 v39
  let v41 : BitVec 32 := Scalar.remsi v28 c4_i32
  let c0_i32_14 : BitVec 32 := 0#32
  let v42 : BitVec 1 := Scalar.cmpi .ne v41 c0_i32_14
  let v43 : BitVec 1 := Scalar.andi v40 v42
  let v29 : BitVec 32 := Scalar.divsi v28 c4_i32
  let c1_i32_15 : BitVec 32 := 1#32
  let v44 : BitVec 32 := Scalar.subi v29 c1_i32_15
  let v45 : BitVec 32 := Scalar.select v43 v44 v29
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c16_i32 : BitVec 32 := 16#32
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let v2 : BitVec 32 := Scalar.divsi v1 c16_i32
  let c1_i32 : BitVec 32 := 1#32
  let v17 : BitVec 32 := Scalar.subi v2 c1_i32
  let v18 : BitVec 32 := Scalar.select v16 v17 v2
  let c4096_i32 : BitVec 32 := 4096#32
  let v163 : BitVec 32 := Scalar.muli v18 c4096_i32
  let c4_i32_16 : BitVec 32 := 4#32
  let c0_i32_17 : BitVec 32 := 0#32
  let v46 : BitVec 1 := Scalar.cmpi .eq c4_i32_16 c0_i32_17
  let c1_i32_18 : BitVec 32 := 1#32
  let v47 : BitVec 32 := Scalar.select v46 c1_i32_18 c4_i32_16
  let v48 : BitVec 32 := Scalar.remsi v28 v47
  let c0_i32_20 : BitVec 32 := 0#32
  let v50 : BitVec 1 := Scalar.cmpi .slt v48 c0_i32_20
  let c0_i32_21 : BitVec 32 := 0#32
  let v51 : BitVec 1 := Scalar.cmpi .slt v47 c0_i32_21
  let v52 : BitVec 1 := Scalar.xori v50 v51
  let c0_i32_19 : BitVec 32 := 0#32
  let v49 : BitVec 1 := Scalar.cmpi .ne v48 c0_i32_19
  let v53 : BitVec 1 := Scalar.andi v52 v49
  let v54 : BitVec 32 := Scalar.addi v48 v47
  let v55 : BitVec 32 := Scalar.select v53 v54 v48
  let c1024_i32_109 : BitVec 32 := 1024#32
  let v164 : BitVec 32 := Scalar.muli v55 c1024_i32_109
  let v165 : BitVec 32 := Scalar.addi v163 v164
  let c0_i32_111 : BitVec 32 := 0#32
  let c1_i32_112 : BitVec 32 := 1#32
  let arg10 : BitVec 32 := Scf.iv c0_i32_111 c1_i32_112 k0_t1
  let c128_i32_158 : BitVec 32 := 128#32
  let v279 : BitVec 32 := Scalar.muli arg10 c128_i32_158
  let v280 : BitVec 32 := Scalar.addi v165 v279
  let c0_i32_159_r2 : BitVec 32 := 0#32
  ![v45.toNat, v280.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x512x512 : Shape := ⟨3, ![4, 512, 512]⟩
abbrev S4x4096x2 : Shape := ⟨3, ![4, 4096, 2]⟩
abbrev S4x262144 : Shape := ⟨2, ![4, 262144]⟩
abbrev S4x8192 : Shape := ⟨2, ![4, 8192]⟩
abbrev S_ : Shape := ⟨0, ![]⟩
abbrev S4x8192x1 : Shape := ⟨3, ![4, 8192, 1]⟩
abbrev S1 : Shape := ⟨1, ![1]⟩
abbrev S1x1x1 : Shape := ⟨3, ![1, 1, 1]⟩
abbrev S4x8192x2 : Shape := ⟨3, ![4, 8192, 2]⟩

abbrev nBuf : Space → Nat
  | .hbm => 53
  | .vmem => 0
  | .smem => 0
  | _ => 0

abbrev bufTy : (tb : Table) → Fin (tcTables nBuf tb) → BufTy
  | .hbm, ⟨0, _⟩ => ⟨S4x512x512, .f32⟩
  | .hbm, ⟨1, _⟩ => ⟨S4x4096x2, .i32⟩
  | .hbm, ⟨2, _⟩ => ⟨S4x4096x2, .i32⟩
  | .hbm, ⟨3, _⟩ => ⟨S4x262144, .f32⟩
  | .hbm, ⟨4, _⟩ => ⟨S4x8192, .i32⟩
  | .hbm, ⟨5, _⟩ => ⟨S_, .i32⟩
  | .hbm, ⟨6, _⟩ => ⟨S4x8192, .i32⟩
  | .hbm, ⟨7, _⟩ => ⟨S4x8192, .i1⟩
  | .hbm, ⟨8, _⟩ => ⟨S_, .i32⟩
  | .hbm, ⟨9, _⟩ => ⟨S4x8192, .i32⟩
  | .hbm, ⟨10, _⟩ => ⟨S4x8192, .i32⟩
  | .hbm, ⟨11, _⟩ => ⟨S4x8192, .i32⟩
  | .hbm, ⟨12, _⟩ => ⟨S4x8192x1, .i32⟩
  | .hbm, ⟨13, _⟩ => ⟨S1, .i32⟩
  | .hbm, ⟨14, _⟩ => ⟨S_, .i32⟩
  | .hbm, ⟨15, _⟩ => ⟨S4x8192x1, .i32⟩
  | .hbm, ⟨16, _⟩ => ⟨S4x8192x1, .i1⟩
  | .hbm, ⟨17, _⟩ => ⟨S1x1x1, .i32⟩
  | .hbm, ⟨18, _⟩ => ⟨S4x8192x1, .i32⟩
  | .hbm, ⟨19, _⟩ => ⟨S4x8192x1, .i1⟩
  | .hbm, ⟨20, _⟩ => ⟨S4x8192x1, .i1⟩
  | .hbm, ⟨21, _⟩ => ⟨S_, .i1⟩
  | .hbm, ⟨22, _⟩ => ⟨S4x8192, .i1⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S4x8192, .f32⟩
  | .hbm, ⟨27, _⟩ => ⟨S4x4096x2, .f32⟩
  | .hbm, ⟨28, _⟩ => ⟨S4x8192, .i32⟩
  | .hbm, ⟨29, _⟩ => ⟨S_, .i32⟩
  | .hbm, ⟨30, _⟩ => ⟨S4x8192, .i32⟩
  | .hbm, ⟨31, _⟩ => ⟨S4x8192, .i1⟩
  | .hbm, ⟨32, _⟩ => ⟨S_, .i32⟩
  | .hbm, ⟨33, _⟩ => ⟨S4x8192, .i32⟩
  | .hbm, ⟨34, _⟩ => ⟨S4x8192, .i32⟩
  | .hbm, ⟨35, _⟩ => ⟨S4x8192, .i32⟩
  | .hbm, ⟨36, _⟩ => ⟨S4x8192x1, .i32⟩
  | .hbm, ⟨37, _⟩ => ⟨S1, .i32⟩
  | .hbm, ⟨38, _⟩ => ⟨S_, .i32⟩
  | .hbm, ⟨39, _⟩ => ⟨S4x8192x1, .i32⟩
  | .hbm, ⟨40, _⟩ => ⟨S4x8192x1, .i1⟩
  | .hbm, ⟨41, _⟩ => ⟨S1x1x1, .i32⟩
  | .hbm, ⟨42, _⟩ => ⟨S4x8192x1, .i32⟩
  | .hbm, ⟨43, _⟩ => ⟨S4x8192x1, .i1⟩
  | .hbm, ⟨44, _⟩ => ⟨S4x8192x1, .i1⟩
  | .hbm, ⟨45, _⟩ => ⟨S_, .i1⟩
  | .hbm, ⟨46, _⟩ => ⟨S4x8192, .i1⟩
  | .hbm, ⟨47, _⟩ => ⟨S4x8192, .f32⟩
  | .hbm, ⟨48, _⟩ => ⟨S_, .f32⟩
  | .hbm, ⟨49, _⟩ => ⟨S4x8192, .f32⟩
  | .hbm, ⟨50, _⟩ => ⟨S4x8192, .f32⟩
  | .hbm, ⟨51, _⟩ => ⟨S4x4096x2, .f32⟩
  | .hbm, ⟨52, _⟩ => ⟨S4x8192x2, .f32⟩
  | _, _ => ⟨S4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_cst : Ref sig .tc := ⟨.hbm, 48, rfl⟩
abbrev main_call1_v14 : Ref sig .tc := ⟨.hbm, 49, rfl⟩
abbrev main_v5 : Ref sig .tc := ⟨.hbm, 50, rfl⟩
abbrev main_v6 : Ref sig .tc := ⟨.hbm, 51, rfl⟩
abbrev main_v7 : Ref sig .tc := ⟨.hbm, 52, rfl⟩

abbrev nD : Nat := 1
abbrev τ : Topo := Topo.v7x

variable {F : FTy → Type} [FloatOps F]
-- ==== Proof.GatherBatch.lean ====
/-
  Several indirect gathers started on ONE DMA semaphore and waited for afterwards.

  A gather of `o` rows is `o` row copies that all pay the same semaphore, so a run of gathers is one long batch of row
  copies (`Transfers.Batch`, one member per row). `wp_issueRows` issues a gather as the next `o` members of a batch that is
  already open: each member takes its row of the destination and its entry of the index list, and what it delivers is stated
  row by row by whoever opened the batch. The waits are then the batch's own.
-/
module

public import Idealize.ShloMosaic.Lib.SparseCore.Quiescent
public import Idealize.ShloMosaic.Lib.SparseCore.Ops
public import Idealize.ShloMosaic.Lib.SparseCore.Stream
public import Idealize.ShloMosaic.Lib.Batch
public import Idealize.ShloMosaic.Lib.Pipeline.Kit
public import Idealize.ShloMosaic.Lib.Tactic

@[expose] public section

noncomputable section

namespace Cert.GatherBatch

open Idealize.ShloMosaic
open Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

section Pending

variable {M : Type} [URA M]

/-- What is still to come from member `k` on is the next `o` members and what is still to come after them. -/
theorem pending_block {n : ℕ} (Φ : Fin n → sProp M) : ∀ (o k : ℕ) (h : k + o ≤ n),
    bigSep (Transfers.pending k) Φ
      = iprop((bigSep Finset.univ fun i : Fin o => Φ ⟨k + i.val, by omega⟩) ∗ bigSep (Transfers.pending (k + o)) Φ)
  | 0, k, h => by
    rw [Finset.univ_eq_empty, BI.bigSep_empty]; exact (BI.equiv_iff.mp BI.emp_sep).symm
  | o + 1, k, h => by
    rw [Transfers.pending_succ (show k < n by omega), BI.bigSep_insert (Transfers.not_mem_pending_succ (by omega)),
      pending_block Φ o (k + 1) (by omega), Fin.univ_succ, Finset.cons_eq_insert, BI.bigSep_insert (by simp), BI.bigSep_map,
      show Transfers.pending (n := n) (k + 1 + o) = Transfers.pending (k + (o + 1)) by congr 1; omega]
    have he : ∀ i : Fin o, (⟨k + 1 + i.val, by omega⟩ : Fin n) = ⟨k + i.succ.val, by simp; omega⟩ := fun i =>
      Fin.ext (by simp; omega)
    simp only [he]
    exact (BI.equiv_iff.mp ⟨BI.sep_assoc, BI.sep_assoc'⟩).symm

end Pending

variable {nD : Nat} {τ : Topo} {sig : RefSig} {Ix : Type} [DecidableEq Ix]
variable {F : FTy → Type} {Name : Type} [DecidableEq Name]
variable {U : Type} [URA U] {Lvl : Type} [Preorder Lvl] {Λ : Labels}

local notation "𝕄" => MT nD τ sig Ix (Elt F) Name U Lvl

variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

/-- An indirect gather issued as the NEXT `s.size hg.axis'` members of an open batch whose members are row copies of `N`
    units each (`hN`). It takes a share of the source, the destination's elements, a share of the index list whose words are
    all in range, and the batch with `j₀` members issued; it leaves the batch with the gather's rows issued too. Row `j`'s
    delivery — the row of the destination written with the source's row the list names, and the list's entry — has to give
    what the batch's opener asked of member `j₀ + j` (`hD`). The source's share stays with the rows. -/
theorem wp_issueRows [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {n j₀ u : ℕ} {D : Fin n → sProp 𝕄} (ι : Ix) (N : ℕ)
    (hN : ∀ j, (dst.slice (s.rowRect hg.axis' j) (s.stride_rowRect hg.axis' j)).view.dmaCredit = N)
    (ho : 0 < s.size hg.axis') (hj₀ : j₀ + s.size hg.axis' ≤ n) (hu : u ≤ j₀ * N)
    (hin : ∀ x, (offs.view.read (Elt F) fo x).toNat < s₀.size hg.axis)
    (hD : ∀ j : Fin (s.size hg.axis'),
      iprop((dst.view.loc c ↦[(dst.view.slice (s.rowRect hg.axis' j)).set]{fullShare}
              ((dst.view.slice (s.rowRect hg.axis' j)).write (Elt F) fd
                (fun i => src.view.read (Elt F) fs (hg.rowIdx (rows (offs.view.read (Elt F) fo) hn hin j) i)) Finset.univ))
          ∗ (offs.view.loc c ↦[{offs.view.emb (si.rowMajor.symm (j.cast hn.symm))}]{qo} fo))
        ⊢ D ⟨j₀ + j.val, by omega⟩) :
    iprop((src.view.loc c ↦[src.view.set]{q} fs) ∗ (dst.view.loc c ↦[dst.view.set]{fullShare} fd)
        ∗ (offs.view.loc c ↦[offs.view.set]{qo} fo) ∗ Transfers.Batch EC c (.dma sem) ι N D j₀ u)
      ⊢ iprop((Transfers.Batch EC c (.dma sem) ι N D (j₀ + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let rd : Fin (s.size hg.axis') → RowDma τ sig (Elt F) c.2 sem := fun j =>
    gatherRow c src dst hg sem hsrc he hsp hr j (rows (offs.view.read (Elt F) fo) hn hin j)
  let qk : Fin (s.size hg.axis') → PosShare TreeShare := pieceOf q _ ho
  have hagree : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hsum : ∑ j, (rd j).dst.view.dmaCredit = s.size hg.axis' * N :=
    (Finset.sum_congr rfl fun j _ => hN j).trans (by rw [Finset.sum_const, Finset.card_univ, Fintype.card_fin, smul_eq_mul])
  unfold Transfers.Batch
  iintro ⟨Hs, Hd, Ho, ⟨%γ, %γ₀, %κ, #Hinv, HI, H0, Hcred⟩⟩ Hk
  ihave HI' := (Entails.of_eq (pending_block (fun t => count EC (γ t) 0) (s.size hg.axis') j₀ hj₀)) $$ HI
  icases HI' with ⟨Hγ, HI⟩
  -- the destination row by row, the list entry by entry, the source in as many shares
  ihave Hd' := (Entails.of_eq (pointsTo_rows c dst.view hg.axis' fullShare fd)) $$ Hd
  ihave Ho' := (Entails.of_eq (pointsTo_entries c offs.view S.entry
    (si.rowMajor.symm.bijective.comp (finCongr hn.symm).bijective) qo fo)) $$ Ho
  ihave Hs' := (Entails.of_eq (pointsTo_piecesOf (src.view.set) fs ho q)) $$ Hs
  iapply (wp_enqueueIndirectDma 𝒱 c bd Set.univ (qo := qo) (fo := fo) (rd := rd) ι _ hagree hrd hsum) $$ [Hd' Ho' Hs' Hγ]
  · have hrow : ∀ j : Fin (s.size hg.axis'), iprop(inv κ (Transfers.batchBody EC (c, SemLoc.dma sem) N D γ γ₀)
          ∗ (((dst.view.loc c ↦[(dst.view.slice (s.rowRect hg.axis' j)).set]{fullShare} fd) ∗ S.heldEntry qo fo j)
          ∗ ((src.view.loc c ↦[src.view.set]{qk j} fs) ∗ count EC (γ ⟨j₀ + j.val, by omega⟩) 0)))
        ⊢ iprop(S.heldEntry qo fo j ∗ (S.heldEntry qo fo j -∗ rowRes c (rd j))) := fun j => by
      iintro ⟨#Hinv, ⟨Hr, He⟩, Hsq, Hγj⟩
      isplitl [He]; · iexact He
      iintro He
      unfold rowRes
      iexists qk j, fs, iprop((dst.view.loc c ↦[(dst.view.slice (s.rowRect hg.axis' j)).set]{fullShare}
        ((dst.view.slice (s.rowRect hg.axis' j)).write (Elt F) fd
          (fun i => src.view.read (Elt F) fs (hg.rowIdx (rows (offs.view.read (Elt F) fo) hn hin j) i)) Finset.univ)) ∗ S.heldEntry qo fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · rw [show (rd j).dst.view.amount (SemLoc.dma sem) = N from hN j]
        iapply (Transfers.batch_creditUpdate EC (D := D) (γ₀ := γ₀) ⟨j₀ + j.val, by omega⟩ (Entails.trans sep_elim_left (hD j)))
        isplitr; · iexact Hinv
        iexact Hγj
    unfold Stream.res
    ihave H1 := Transfers.bigSep_sep_in _ _ _ $$ [Hd' Ho']; · isplitl [Hd'] <;> iassumption
    ihave H2 := Transfers.bigSep_sep_in _ _ _ $$ [Hs' Hγ]; · isplitl [Hs'] <;> iassumption
    ihave H3 := Transfers.bigSep_sep_in _ _ _ $$ [H1 H2]; · isplitl [H1] <;> iassumption
    iapply (Transfers.bigSep_mono_pers Finset.univ _ _ _ fun j _ => hrow j)
    isplitr; · iexact Hinv
    iexact H3
  iintro Hcred'
  iapply Hk
  iexists γ, γ₀, κ
  isplitr; · iexact Hinv
  isplitl [HI]; · iexact HI
  isplitl [H0]; · iexact H0
  rw [show (j₀ + s.size hg.axis') * N - u = (j₀ * N - u) + s.size hg.axis' * N by rw [Nat.add_mul]; omega, ← tallyAt_add]
  icombine Hcred Hcred' as H
  iexact H

end Cert.GatherBatch
-- ==== Proof.Common.lean ====
/-
  The kernel's gather, as numbers and contents, and the launch's vocabulary.

  Worker `w` (of 32; vector subcore `s` of SparseCore `c` is worker `2 s + c`) serves row `(b, q)` of index array `h`, where
  `h = w / 16`, `b = (w % 16) / 4`, `q = w % 4`: it fetches the row's 2048 indices (`listOf`), gathers the table's entries
  they name (`valsOf`), and writes them as 1024 pairs into batch `b` of the result, from pair `4096 h + 1024 q` on
  (`region`). `outOf` is the whole result, entry by entry.
-/
module

public import proofs.«01_k».proof.Defs
public import proofs.«01_k».proof.Proof.GatherBatch
public import Idealize.ShloMosaic.Lib.StableHlo.Run
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## Indices by their coordinates -/

/-- Entry `n` of the table, of an index list, of a result, by the coordinates' values. -/
def at1 (n : ℕ) : S1048576.Idx := fun | 0 => ⟨n % 1048576, Nat.mod_lt _ (by decide)⟩
def atL (n : ℕ) : S2048.Idx := fun | 0 => ⟨n % 2048, Nat.mod_lt _ (by decide)⟩
def atP (p k : ℕ) : S128x2.Idx := fun
  | 0 => ⟨p % 128, Nat.mod_lt _ (by decide)⟩
  | 1 => ⟨k % 2, Nat.mod_lt _ (by decide)⟩
def at3 (b q e : ℕ) : S4x4x2048.Idx := fun
  | 0 => ⟨b % 4, Nat.mod_lt _ (by decide)⟩
  | 1 => ⟨q % 4, Nat.mod_lt _ (by decide)⟩
  | 2 => ⟨e % 2048, Nat.mod_lt _ (by decide)⟩

theorem at1_of {i : S1048576.Idx} {n : ℕ} (h : (i 0).val = n) : i = at1 n := by
  funext a; match a with
  | 0 => exact Fin.ext (h.trans (Nat.mod_eq_of_lt (h ▸ (i 0).isLt)).symm)
theorem atL_of {i : S2048.Idx} {n : ℕ} (h : (i 0).val = n) : i = atL n := by
  funext a; match a with
  | 0 => exact Fin.ext (h.trans (Nat.mod_eq_of_lt (h ▸ (i 0).isLt)).symm)
theorem atP_of {i : S128x2.Idx} {p k : ℕ} (h : (i 0).val = p) (h' : (i 1).val = k) : i = atP p k := by
  funext a; match a with
  | 0 => exact Fin.ext (h.trans (Nat.mod_eq_of_lt (h ▸ (i 0).isLt)).symm)
  | 1 => exact Fin.ext (h'.trans (Nat.mod_eq_of_lt (h' ▸ (i 1).isLt)).symm)
theorem at3_of {i : S4x4x2048.Idx} {b q e : ℕ} (h : (i 0).val = b) (h' : (i 1).val = q) (h'' : (i 2).val = e) : i = at3 b q e := by
  funext a; match a with
  | 0 => exact Fin.ext (h.trans (Nat.mod_eq_of_lt (h ▸ (i 0).isLt)).symm)
  | 1 => exact Fin.ext (h'.trans (Nat.mod_eq_of_lt (h' ▸ (i 1).isLt)).symm)
  | 2 => exact Fin.ext (h''.trans (Nat.mod_eq_of_lt (h'' ▸ (i 2).isLt)).symm)
theorem atL_val {n : ℕ} (h : n < 2048) : (atL n 0).val = n := Nat.mod_eq_of_lt h

/-! ## What a worker serves, and the result -/

section Data

variable (X : S1048576.Idx → Elt F .f32) (G₀ G₁ : S4x4x2048.Idx → Elt F .i32)

/-- The index list of worker `w`, and the table entries it names. -/
def listOf (w : ℕ) (i : S2048.Idx) : Elt F .i32 :=
  (if w / 16 = 0 then G₀ else G₁) (at3 ((w % 16) / 4) (w % 4) (i 0).val)
def valsOf (w : ℕ) (i : S2048.Idx) : Elt F .f32 := X (at1 (BitVec.toNat (listOf (F := F) G₀ G₁ w i)))

/-- The worker that writes element `j` of the result; the elements worker `w` writes; core `c`'s. -/
def workerOf (j : S4x8192x2.Idx) : ℕ := 16 * ((j 1).val / 4096) + 4 * (j 0).val + (j 1).val % 4096 / 1024
def region (w : ℕ) : Finset S4x8192x2.Idx := Finset.univ.filter fun j => workerOf j = w
def coreRegion (c : ℕ) : Finset S4x8192x2.Idx := Finset.univ.filter fun j => workerOf j % 2 = c

theorem workerOf_lt (j : S4x8192x2.Idx) : workerOf j < 32 := by
  have h0 : (j 0).val < 4 := (j 0).isLt
  have h1 : (j 1).val < 8192 := (j 1).isLt
  unfold workerOf; omega

/-- The result: element `(b, n, k)` is its worker's value for pair `n % 1024`, place `k`. -/
def outOf (j : S4x8192x2.Idx) : Elt F .f32 := valsOf X G₀ G₁ (workerOf j) (atL (2 * ((j 1).val % 1024) + (j 2).val))

end Data

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

abbrev xLoc (d : Dev nD) : Loc nD τ sig := (SparseCore.T d).loc main_v0
abbrev g₀Loc (d : Dev nD) : Loc nD τ sig := (SparseCore.T d).loc main_v7
abbrev g₁Loc (d : Dev nD) : Loc nD τ sig := (SparseCore.T d).loc main_v10
abbrev oLoc (d : Dev nD) : Loc nD τ sig := (SparseCore.T d).loc main_v11

/-- A worker's subcore, and its number. -/
abbrev cV (L : grid0.Coords) : Fin τ.nSC := (L 0).castLE hcore0
abbrev jV (L : grid0.Coords) : Fin τ.nSub := (L 1).castLE hsub0
abbrev thrV (d : Dev nD) (L : grid0.Coords) : Thread nD τ := V d (cV L) (jV L)
abbrev wk (L : grid0.Coords) : ℕ := 2 * (L 1).val + (L 0).val

abbrev iLoc (d : Dev nD) (L : grid0.Coords) : Loc nD τ sig := (thrV d L).loc cc0_scratch0
abbrev vLoc (d : Dev nD) (L : grid0.Coords) : Loc nD τ sig := (thrV d L).loc cc0_scratch1
abbrev bLoc (d : Dev nD) (L : grid0.Coords) : Loc nD τ sig := (thrV d L).loc cc0_scratch2

abbrev gCell (d : Dev nD) (L : grid0.Coords) : GSem nD τ sig := (thrV d L, .dma cc0_scratch3.sem)
abbrev aCell (d : Dev nD) (L : grid0.Coords) : GSem nD τ sig := (thrV d L, .dma cc0_scoped0.sem)
abbrev bCell (d : Dev nD) (L : grid0.Coords) : GSem nD τ sig := (thrV d L, .dma cc0_scoped1.sem)
abbrev oCell (d : Dev nD) (L : grid0.Coords) : GSem nD τ sig := (thrV d L, .dma cc0_scoped2.sem)

/-- The three scratch buffers are among a subcore's own. -/
theorem ownBufs_V (d : Dev nD) (L : grid0.Coords) :
    (ownBufs (thrV d L) : sProp 𝕄)
      = iprop((∃ f, iLoc d L ↦{fullShare} f) ∗ (∃ f, vLoc d L ↦{fullShare} f) ∗ (∃ f, bLoc d L ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  have hne : ∀ {r r' : Ref sig .scVector}, r ≠ r' → (Proc.scVector (cV L) (jV L)).devRef r ≠ (Proc.scVector (cV L) (jV L)).devRef r' :=
    fun h e => h (Proc.devRef_injective _ e)
  have hown : ∀ r : Ref sig .scVector, ((Proc.scVector (cV L) (jV L)).devRef r).owner = .proc (.scVector (cV L) (jV L)) →
      (Proc.scVector (cV L) (jV L)).devRef r ∈ ownRefs (τ := τ) (.scVector (cV L) (jV L)) :=
    fun _ h => SparseCore.Cfg.mem_ownRefs_of_owner (p := Proc.scVector (cV L) (jV L)) h
  refine (SparseCore.bigSep_erase' (hown cc0_scratch0 rfl)).trans ?_
  rw [SparseCore.bigSep_erase' (Finset.mem_erase.mpr ⟨hne (show (cc0_scratch1 : Ref sig .scVector) ≠ cc0_scratch0 by decide), hown cc0_scratch1 rfl⟩),
    SparseCore.bigSep_erase' (Finset.mem_erase.mpr ⟨hne (show (cc0_scratch2 : Ref sig .scVector) ≠ cc0_scratch1 by decide),
      Finset.mem_erase.mpr ⟨hne (show (cc0_scratch2 : Ref sig .scVector) ≠ cc0_scratch0 by decide), hown cc0_scratch2 rfl⟩⟩)]

/-- The four semaphores of the kernel are among a subcore's own. -/
theorem ownSems0_V (d : Dev nD) (L : grid0.Coords) :
    (ownSems0 (thrV d L) : sProp 𝕄)
      = iprop(semVal (gCell d L) 0 ∗ semVal (aCell d L) 0 ∗ semVal (bCell d L) 0 ∗ semVal (oCell d L) 0
          ∗ bigSep (((((ownCells (thrV d L)).erase (gCell d L)).erase (aCell d L)).erase (bCell d L)).erase (oCell d L)) fun g => semVal g 0) := by
  unfold SparseCore.Cfg.ownSems0
  have hne : ∀ {a b : SemLoc sig}, a ≠ b → ((thrV d L, a) : GSem nD τ sig) ≠ (thrV d L, b) := fun h e => h (Prod.mk.inj e).2
  have hown : ∀ a : SemLoc sig, a.isScoped .scVector = true → ((thrV d L, a) : GSem nD τ sig) ∈ ownCells (thrV d L) :=
    fun _ h => mem_ownCells.mpr ⟨rfl, h⟩
  rw [SparseCore.bigSep_erase' (hown (.dma cc0_scratch3.sem) (by decide)),
    SparseCore.bigSep_erase' (Finset.mem_erase.mpr ⟨hne (show (SemLoc.dma cc0_scoped0.sem : SemLoc sig) ≠ .dma cc0_scratch3.sem by decide),
      hown (.dma cc0_scoped0.sem) (by decide)⟩),
    SparseCore.bigSep_erase' (Finset.mem_erase.mpr ⟨hne (show (SemLoc.dma cc0_scoped1.sem : SemLoc sig) ≠ .dma cc0_scoped0.sem by decide),
      Finset.mem_erase.mpr ⟨hne (show (SemLoc.dma cc0_scoped1.sem : SemLoc sig) ≠ .dma cc0_scratch3.sem by decide), hown (.dma cc0_scoped1.sem) (by decide)⟩⟩),
    SparseCore.bigSep_erase' (Finset.mem_erase.mpr ⟨hne (show (SemLoc.dma cc0_scoped2.sem : SemLoc sig) ≠ .dma cc0_scoped1.sem by decide),
      Finset.mem_erase.mpr ⟨hne (show (SemLoc.dma cc0_scoped2.sem : SemLoc sig) ≠ .dma cc0_scoped0.sem by decide),
        Finset.mem_erase.mpr ⟨hne (show (SemLoc.dma cc0_scoped2.sem : SemLoc sig) ≠ .dma cc0_scratch3.sem by decide), hown (.dma cc0_scoped2.sem) (by decide)⟩⟩⟩)]

end Cert.Proof
-- ==== Proof.Gathers.lean ====
/-
  The sixteen gathers of a worker: sixteen runs of 128 entries of the index list, all started on one semaphore, then all
  waited for. The run is one batch of 2048 single-entry copies; entry `t` delivers value `t` and gives index `t` back.
-/
module

public import proofs.«01_k».proof.Proof.Common

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev iV : Memref sig .scVector .vmem S2048 .i32 := Memref.whole cc0_scratch0
abbrev rV : Memref sig .scVector .vmem S2048 .f32 := Memref.whole cc0_scratch1
abbrev bV : Memref sig .scVector .vmem S128x2 .f32 := Memref.whole cc0_scratch2
abbrev xV : Memref sig .scVector .hbm S1048576 .f32 := Memref.whole main_v0_scv

/-- Entries `o … o + 127` of the values and of the index list; the whole table. -/
abbrev runOf (o : ℕ) (h : ∀ a, (![o] : Fin 1 → Nat) a + S128.size a ≤ S2048.size a) : Rect S2048 := Rect.unit (s := S2048) ![o] S128.size h
abbrev runV (o : ℕ) (h : ∀ a, (![o] : Fin 1 → Nat) a + S128.size a ≤ S2048.size a) : Memref sig .scVector .vmem S128 .f32 := rV.slice (runOf o h) (fun _ => rfl)
abbrev runI (o : ℕ) (h : ∀ a, (![o] : Fin 1 → Nat) a + S128.size a ≤ S2048.size a) : Memref sig .scVector .vmem S128 .i32 := iV.slice (runOf o h) (fun _ => rfl)
abbrev xAll : Memref sig .scVector .hbm S1048576 .f32 := xV.slice (Rect.unit (s := S1048576) ![0] S1048576.size inb_S1048576_S1048576_0) (fun _ => rfl)

/-- The entries from `o` on. -/
def later (o : ℕ) : Finset S2048.Idx := Finset.univ.filter fun i => o ≤ (i 0).val

theorem later_zero : later 0 = Finset.univ := Finset.filter_true_of_mem fun _ _ => Nat.zero_le _

variable (o : ℕ) (h : ∀ a, (![o] : Fin 1 → Nat) a + S128.size a ≤ S2048.size a)

include h in
theorem runOf_le : o + 128 ≤ 2048 := h 0

theorem mem_runOf {i : S2048.Idx} : i ∈ (runOf o h).set ↔ o ≤ (i 0).val ∧ (i 0).val < o + 128 := by
  rw [Rect.mem_set_unit]
  exact ⟨fun H => H 0, fun H a => by match a with | 0 => exact H⟩
theorem runOf_subset : (runOf o h).set ⊆ later o := fun i hi =>
  Finset.mem_filter.mpr ⟨Finset.mem_univ _, ((mem_runOf o h).mp hi).1⟩
theorem later_sdiff : later o \ (runOf o h).set = later (o + 128) := by
  ext i; simp only [later, Finset.mem_sdiff, mem_runOf, Finset.mem_filter, Finset.mem_univ, true_and]; omega
theorem set_runV : (runV o h).view.set = (runOf o h).set := by
  show ((View.whole (cc0_scratch1 : Ref sig .scVector)).slice (runOf o h)).set = _
  rw [View.set_slice]; exact Finset.map_refl
theorem set_runI : (runI o h).view.set = (runOf o h).set := by
  show ((View.whole (cc0_scratch0 : Ref sig .scVector)).slice (runOf o h)).set = _
  rw [View.set_slice]; exact Finset.map_refl

abbrev hG := gathers_S1048576_S128

/-- Row `j` of a run is entry `o + j`. -/
theorem row_emb (j : Fin (S128.size hG.axis')) (x : (S128.rowShape hG.axis').Idx) :
    ((runV o h).view.slice (S128.rowRect hG.axis' j)).emb x = atL (o + j.val) := by
  refine atL_of (i := (runOf o h).emb ((S128.rowRect hG.axis' j).emb x)) ?_
  rw [Rect.emb_apply]
  show o + 1 * ((S128.rowRect hG.axis' j).emb x hG.axis').val = _
  rw [Shape.rowRect_emb_axis, Nat.one_mul]
theorem row_set (j : Fin (S128.size hG.axis')) : ((runV o h).view.slice (S128.rowRect hG.axis' j)).set = {atL (o + j.val)} := by
  ext i
  rw [View.set, Finset.mem_map, Finset.mem_singleton]
  refine ⟨fun ⟨x, _, hx⟩ => hx ▸ row_emb o h j x, fun hi => ?_⟩
  exact ⟨S128.rowProj hG.axis' (fun | 0 => j), Finset.mem_univ _, hi ▸ row_emb o h j _⟩

/-- Entry `j` of a run of the list is entry `o + j` of the list. -/
theorem entry_emb (j : Fin (S128.size hG.axis')) (hn : S128.numel = S128.size hG.axis') :
    (runI o h).view.emb (S128.rowMajor.symm (j.cast hn.symm)) = atL (o + j.val) := by
  refine atL_of (i := (runOf o h).emb (S128.rowMajor.symm (j.cast hn.symm))) ?_
  have := Shape.rowMajor_val_one (S128.rowMajor.symm (j.cast hn.symm))
  rw [Equiv.apply_symm_apply] at this
  rw [Rect.emb_apply]
  show o + 1 * _ = _
  rw [Nat.one_mul, ← this]; rfl

/-- What one row copy pays the semaphore. -/
abbrev rowN : ℕ := (cc0_scratch1 : Ref sig .scVector).dmaCredit (S128.rowShape hG.axis') .f32

theorem row_credit (j : Fin (S128.size hG.axis')) :
    ((runV o h).slice (S128.rowRect hG.axis' j) (S128.stride_rowRect hG.axis' j)).view.dmaCredit = rowN := rfl
theorem run_credit : (runV o h).view.dmaCredit = 128 * rowN := by
  show (cc0_scratch1 : Ref sig .scVector).dmaCredit S128 .f32 = 128 * rowN
  decide
theorem rowN_pos : 0 < rowN := by decide

section Run

variable [FloatOps F] (d : Dev nD) (L : grid0.Coords)
variable (X : S1048576.Idx → Elt F .f32) (G₀ G₁ : S4x4x2048.Idx → Elt F .i32)

/-- What entry `t` of the run delivers: value `t` gathered, index `t` back. -/
def entryOf (t : Fin 2048) : sProp 𝕄 :=
  iprop((vLoc d L ↦[{atL t.val}]{fullShare} valsOf X G₀ G₁ (wk L)) ∗ (iLoc d L ↦[{atL t.val}]{fullShare} listOf (F := F) G₀ G₁ (wk L)))

instance entryOf_storable (t : Fin 2048) : BI.Storable (upEmb : UEmb _ 𝕄) (entryOf d L X G₀ G₁ t) := by
  unfold entryOf; infer_instance

/-- The gathers' semaphore with `o` entries issued and `u` waited for. -/
abbrev gathering (o u : ℕ) : sProp 𝕄 :=
  Transfers.Batch countersEmb (thrV d L) (.dma cc0_scratch3.sem) (default : HIx 1) rowN (entryOf d L X G₀ G₁) o (u * rowN)

/-- With the first `o` entries issued: the rest of the two lists, and some share of the table. -/
def Issuing (o : ℕ) : sProp 𝕄 :=
  iprop((∃ q, xLoc d ↦{q} X) ∗ (∃ f, vLoc d L ↦[later o]{fullShare} f)
    ∗ (iLoc d L ↦[later o]{fullShare} listOf (F := F) G₀ G₁ (wk L)) ∗ gathering d L X G₀ G₁ o 0)

/-- What a row copy of a run leaves is what its entry asked for. -/
theorem row_delivers (hin : ∀ i, (BitVec.toNat (listOf (F := F) G₀ G₁ (wk L) i)) < 1048576) (hn : S128.numel = S128.size hG.axis')
    (hin' : ∀ x, ((runI o h).view.read (Elt F) (listOf (F := F) G₀ G₁ (wk L)) x).toNat < S1048576.size hG.axis)
    (fd : S2048.Idx → Elt F .f32) (j : Fin (S128.size hG.axis')) (hj : o + j.val < 2048) :
    iprop(((runV o h).view.loc (thrV d L) ↦[((runV o h).view.slice (S128.rowRect hG.axis' j)).set]{fullShare}
              (((runV o h).view.slice (S128.rowRect hG.axis' j)).write (Elt F) fd
                (fun i => xAll.view.read (Elt F) X (hG.rowIdx (SparseCore.rows ((runI o h).view.read (Elt F) (listOf (F := F) G₀ G₁ (wk L))) hn hin' j) i)) Finset.univ))
          ∗ ((runI o h).view.loc (thrV d L) ↦[{(runI o h).view.emb (S128.rowMajor.symm (j.cast hn.symm))}]{fullShare} listOf (F := F) G₀ G₁ (wk L)))
        ⊢ (entryOf d L X G₀ G₁ ⟨o + j.val, hj⟩ : sProp 𝕄) := by
  unfold entryOf
  refine sep_mono (Entails.of_eq ?_) (Entails.of_eq (by rw [entry_emb o h j hn]))
  rw [row_set]
  refine pointsTo_congr fun i hi => ?_
  rw [← row_set o h j, View.set, Finset.mem_map] at hi
  obtain ⟨x, -, rfl⟩ := hi
  rw [View.write_emb_of_mem _ _ (Finset.mem_univ x)]
  refine Eq.trans (?_ : _ = valsOf X G₀ G₁ (wk L) (atL (o + j.val))) (congrArg _ (row_emb o h j x).symm)
  refine (cast_eq _ _).trans ?_
  exact congrArg X (at1_of (by
    show 0 + 1 * (hG.rowIdx (SparseCore.rows ((runI o h).view.read (Elt F) (listOf (F := F) G₀ G₁ (wk L))) hn hin' j) x hG.axis).val = _
    rw [Nat.zero_add, Nat.one_mul]
    refine (congrArg Fin.val (Shape.Gathers.rowIdx_axis hG (SparseCore.rows ((runI o h).view.read (Elt F) (listOf (F := F) G₀ G₁ (wk L))) hn hin' j) x)).trans ?_
    show (listOf (F := F) G₀ G₁ (wk L) ((runI o h).view.emb (S128.rowMajor.symm (j.cast hn.symm)))).toNat = _
    rw [entry_emb]; rfl))

theorem wp_issue {α : Type} {Q : α → sProp 𝕄} (hin : ∀ i, (BitVec.toNat (listOf (F := F) G₀ G₁ (wk L) i)) < 1048576)
    {hn : S128.numel = S128.size hG.axis'}
    {hp : (thrV d L).2.kind = .scVector} {hsrc : xAll.view.WordExact} {he : EltTy.f32.bits = 32} {hsp : Space.hbm = .hbm ∨ Space.hbm = .shared}
    {hr : S1048576.StreamRows 0} {k : PUnit → Prog (TpuEff nD τ sig (Elt F) Λ₀ (thrV d L).2) α} :
    Issuing d L X G₀ G₁ o
      ⊢ iprop((Issuing d L X G₀ G₁ (o + 128) -∗ wp frame (wpE (defs₀ (F := F)) 𝒱₀ (thrV d L) none) Set.univ (k ⟨⟩) Q)
          -∗ wp frame (wpE (defs₀ (F := F)) 𝒱₀ (thrV d L) none) Set.univ
            (SparseCore.enqueueIndirectGather hp xAll (runV o h) hG (runI o h) hn cc0_scratch3.sem hsrc he hsp hr >>= k) Q) := by
  have hb : o + 128 ≤ 2048 := runOf_le o h
  have hin' : ∀ x, ((runI o h).view.read (Elt F) (listOf (F := F) G₀ G₁ (wk L)) x).toNat < S1048576.size hG.axis := fun x => hin _
  unfold Issuing
  iintro ⟨⟨%q, Hx⟩, ⟨%f, Hv⟩, Hi, Hbatch⟩ Hk
  ihave Hv' := (pointsTo_split_subset (runOf_subset o h)).1 $$ Hv
  icases Hv' with ⟨Hv, Hvr⟩
  ihave Hi' := (pointsTo_split_subset (runOf_subset o h)).1 $$ Hi
  icases Hi' with ⟨Hi, Hir⟩
  ihave Hx' := (pointsTo_share (PosShare.mem_left_op_right q)).1 $$ Hx
  icases Hx' with ⟨Hx, Hxr⟩
  ihave Hx' := (pointsTo_split_subset (Finset.subset_univ xAll.view.set)).1 $$ Hx
  icases Hx' with ⟨Hx, -⟩
  iapply (GatherBatch.wp_issueRows countersEmb 𝒱₀ (thrV d L) none (src := xAll) (dst := runV o h) (hg := hG) (offs := runI o h)
    (hn := hn) (fs := X) (fd := f) (fo := listOf (F := F) G₀ G₁ (wk L)) (D := entryOf d L X G₀ G₁) (j₀ := o) (u := 0 * rowN) (default : HIx 1) rowN (row_credit o h)
    (by decide) hb (by rw [Nat.zero_mul]; exact Nat.zero_le _) hin'
    (fun j => row_delivers o h d L X G₀ G₁ hin hn hin' f j (by have : j.val < 128 := j.isLt; omega))) $$ [Hx Hv Hi Hbatch]
  · isplitl [Hx]; · iexact Hx
    isplitl [Hv]; · rw [set_runV]; iexact Hv
    isplitl [Hi]; · rw [set_runI]; iexact Hi
    iexact Hbatch
  iintro Hbatch
  iapply Hk
  isplitl [Hxr]; · iexists _; iexact Hxr
  rw [later_sdiff]
  isplitl [Hvr]; · iexists _; iexact Hvr
  isplitl [Hir]; · iexact Hir
  iexact Hbatch

/-- The tile's debts, with leave to wait: the waits made so far are the given ones or of the tile's own transfers. -/
def Owing (O : CellTallies nD τ sig (HIx 1)) (W : Waits sig (HIx 1)) : sProp 𝕄 :=
  iprop(Transfers.MayWaits (thrV d L) (default : HIx 1) O ∗ ∃ W', ⌜∀ p ∈ W', p ∈ W ∨ p.2 = none⌝ ∗ owes (thrV d L) O W')

variable {d L} in
theorem waits_insert {W W' : Waits sig (HIx 1)} (sm : SemLoc sig) (hW : ∀ p ∈ W', p ∈ W ∨ p.2 = none) :
    ∀ p ∈ insert (sm, (default : HIx 1)) W', p ∈ W ∨ p.2 = none := fun p hp =>
  (Finset.mem_insert.mp hp).elim (fun e => .inr (e ▸ rfl)) (hW p)

/-- With every entry issued: `u` entries waited for. -/
def Waiting (O : CellTallies nD τ sig (HIx 1)) (W : Waits sig (HIx 1)) (u : ℕ) : sProp 𝕄 :=
  iprop(gathering d L X G₀ G₁ 2048 u ∗ Owing d L O W)

section Waits

variable {O : CellTallies nD τ sig (HIx 1)} {W : Waits sig (HIx 1)}

theorem wp_wait {α : Type} {Q : α → sProp 𝕄} (u : ℕ) (hu : u + 128 ≤ 2048)
    {hsrc : xAll.view.WordExact} {hdst : (runV o h).view.WordExact} {k : PUnit → Prog (TpuEff nD τ sig (Elt F) Λ₀ (thrV d L).2) α} :
    Waiting d L X G₀ G₁ O W u
      ⊢ iprop((Waiting d L X G₀ G₁ O W (u + 128) -∗ wp frame (wpE (defs₀ (F := F)) 𝒱₀ (thrV d L) none) Set.univ (k ⟨⟩) Q)
          -∗ wp frame (wpE (defs₀ (F := F)) 𝒱₀ (thrV d L) none) Set.univ
            (SparseCore.waitIndirectGather cc0_scratch3.sem xAll (runV o h) hsrc hdst >>= k) Q) := by
  unfold Waiting Owing
  iintro ⟨Hb, #Hmw, ⟨%W', %hW, HO⟩⟩ Hk
  rw [show (SparseCore.waitIndirectGather cc0_scratch3.sem xAll (runV o h) hsrc hdst >>= k : Prog (TpuEff nD τ sig (Elt F) Λ₀ (thrV d L).2) α)
    = .op (.waitDma2 cc0_scratch3.sem xAll (runV o h) hsrc hdst) k from rfl]
  iapply (Transfers.wp_waitBatchMulO countersEmb 𝒱₀ (thrV d L) none (default : HIx 1) 128 (run_credit o h) (D := entryOf d L X G₀ G₁)
    (j := 2048) (u := u * rowN) (by rw [← Nat.add_mul, Nat.mul_comm rowN]; exact Nat.mul_le_mul_right _ hu)) $$ [Hb HO]
  · isplitl [Hb]; · iexact Hb
    isplitl [HO]; · iexact HO
    iapply (Transfers.MayWaits.elim (SemLoc.dma cc0_scratch3.sem)) $$ Hmw
  iintro ⟨Hb, HO⟩
  iapply Hk
  isplitl [Hb]; · rw [← Nat.add_mul]; iexact Hb
  isplitr; · iexact Hmw
  iexists _; isplitr
  swap; · iexact HO
  ipureintro; exact waits_insert _ hW

/-- The entries, gathered one by one, are the two lists whole. -/
theorem entries_join : bigSep Finset.univ (entryOf d L X G₀ G₁)
    ⊢ (iprop((vLoc d L ↦{fullShare} valsOf X G₀ G₁ (wk L)) ∗ (iLoc d L ↦{fullShare} listOf (F := F) G₀ G₁ (wk L))) : sProp 𝕄) := by
  have hdis : ∀ t ∈ (Finset.univ : Finset (Fin 2048)), ∀ t' ∈ (Finset.univ : Finset (Fin 2048)), t ≠ t' →
      Disjoint ({atL t.val} : Finset S2048.Idx) {atL t'.val} := fun t _ t' _ hne =>
    Finset.disjoint_singleton.mpr fun e => hne (Fin.ext (by
      have := congrArg (fun i : S2048.Idx => (i 0).val) e
      simpa [atL_val t.isLt, atL_val t'.isLt] using this))
  have hcov : (Finset.univ : Finset (Fin 2048)).biUnion (fun t => ({atL t.val} : Finset S2048.Idx)) = Finset.univ := by
    ext i
    simp only [Finset.mem_biUnion, Finset.mem_univ, true_and, Finset.mem_singleton, iff_true]
    exact ⟨i 0, atL_of rfl⟩
  unfold entryOf
  refine (Entails.of_eq (bigSep_sep' _ _ _)).trans (sep_mono (Entails.of_eq ?_) (Entails.of_eq ?_))
  · exact (pointsTo_biUnion (ℓ := vLoc d L) Finset.univ (fun t : Fin 2048 => {atL t.val}) hdis).symm.trans (by rw [hcov])
  · exact (pointsTo_biUnion (ℓ := iLoc d L) Finset.univ (fun t : Fin 2048 => {atL t.val}) hdis).symm.trans (by rw [hcov])

theorem wp_wait_last {α : Type} {Q : α → sProp 𝕄}
    {hsrc : xAll.view.WordExact} {hdst : (runV o h).view.WordExact} {k : PUnit → Prog (TpuEff nD τ sig (Elt F) Λ₀ (thrV d L).2) α} :
    Waiting d L X G₀ G₁ O W 1920
      ⊢ iprop((iprop((vLoc d L ↦{fullShare} valsOf X G₀ G₁ (wk L)) ∗ (iLoc d L ↦{fullShare} listOf (F := F) G₀ G₁ (wk L))
              ∗ semVal (thrV d L, SemLoc.dma cc0_scratch3.sem) 0 ∗ Owing d L O W)
            -∗ wp frame (wpE (defs₀ (F := F)) 𝒱₀ (thrV d L) none) Set.univ (k ⟨⟩) Q)
          -∗ wp frame (wpE (defs₀ (F := F)) 𝒱₀ (thrV d L) none) Set.univ
            (SparseCore.waitIndirectGather cc0_scratch3.sem xAll (runV o h) hsrc hdst >>= k) Q) := by
  unfold Waiting Owing
  iintro ⟨Hb, #Hmw, ⟨%W', %hW, HO⟩⟩ Hk
  rw [show (SparseCore.waitIndirectGather cc0_scratch3.sem xAll (runV o h) hsrc hdst >>= k : Prog (TpuEff nD τ sig (Elt F) Λ₀ (thrV d L).2) α)
    = .op (.waitDma2 cc0_scratch3.sem xAll (runV o h) hsrc hdst) k from rfl]
  iapply (Transfers.wp_waitBatchAllO countersEmb 𝒱₀ (thrV d L) none (default : HIx 1) (run_credit o h) rowN_pos (D := entryOf d L X G₀ G₁)
    (u := 1920 * rowN) (by rw [← Nat.add_mul, Nat.mul_comm rowN])) $$ [Hb HO]
  · isplitl [Hb]; · iexact Hb
    isplitl [HO]; · iexact HO
    iapply (Transfers.MayWaits.elim (SemLoc.dma cc0_scratch3.sem)) $$ Hmw
  iintro ⟨He, Hs, HO⟩
  iapply Hk
  ihave He' := (entries_join d L X G₀ G₁) $$ He
  icases He' with ⟨Hv, Hi⟩
  isplitl [Hv]; · iexact Hv
  isplitl [Hi]; · iexact Hi
  isplitl [Hs]; · iexact Hs
  isplitr; · iexact Hmw
  iexists _; isplitr
  swap; · iexact HO
  ipureintro; exact waits_insert _ hW

end Waits

end Run

end Cert.Proof
-- ==== Proof.Lanes.lean ====
/-
  One block of a worker's values, laid out as pairs: sixteen runs of sixteen values, each loaded and stored lane by lane.
  Lane `l` of run `n` goes to place `l % 2` of pair `8 n + l / 2`.
-/
module

public import proofs.«01_k».proof.Proof.Gathers

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A lane store's contents -/

/-- Storing distinct lanes: a place is rewritten to its lane's value, or is none's and kept. -/
theorem fold_lanes {J K E : Type} (l : List K) (hit : K → J → Prop) [∀ k, DecidablePred (hit k)] (v : K → E) (f : J → E) (j : J) (y : E)
    (hy : ∀ k ∈ l, hit k j → v k = y) (hf : (∀ k ∈ l, ¬ hit k j) → f j = y) :
    l.foldl (fun g k => fun j => if hit k j then v k else g j) f j = y := by
  induction l generalizing f with
  | nil => exact hf (by simp)
  | cons k l ih =>
    refine ih _ (fun k' h' => hy k' (List.mem_cons_of_mem _ h')) fun hn => ?_
    by_cases hk : hit k j
    · refine (if_pos hk).trans ?_; exact hy k List.mem_cons_self hk
    · refine (if_neg hk).trans ?_
      exact hf fun k' h' => (List.mem_cons.mp h').elim (fun e => e ▸ hk) (hn k')

theorem storeIdx_at [FloatOps F] {s : Shape} {e : EltTy} {d : Fin 1 → Nat} (f : Vec F s e) (idxs : Fin s.rank → IVec ⟨1, d⟩ 32) (v : Vec F ⟨1, d⟩ e)
    (h : ∀ a x, (idxs a x).toNat < s.size a) (j : s.Idx) (y : Elt F e)
    (hy : ∀ k : Fin (d 0), (∀ a, (j a).val = (idxs a (Shape.ofLane k)).toNat) → v (Shape.ofLane k) = y)
    (hf : (∀ k : Fin (d 0), ¬ ∀ a, (j a).val = (idxs a (Shape.ofLane k)).toNat) → f j = y) :
    storeIdx f idxs v (fun _ => 1#1) false h j = y := by
  unfold storeIdx
  simp only [show (1#1 : BitVec 1) = 1 from rfl, if_true, Bool.false_eq_true, if_false]
  exact fold_lanes (List.finRange (d 0)) (fun k (j : s.Idx) => ∀ a, (j a).val = (idxs a (Shape.ofLane k)).toNat) (fun k => v (Shape.ofLane k)) f j y
    (fun k _ => hy k) fun H => hf fun k => H k (List.mem_finRange k)

/-! ## The lanes' places -/

/-- The rows of a run from pair `c` on; the columns. -/
abbrev rowsFrom (c : BitVec 32) : IVec S16 32 := addi k0_pay1 (broadcast S16 c)

/-- Lane `l`. -/
def laneAt (l : Fin 16) : S16.Idx := fun | 0 => l

theorem pay1_toNat : ∀ l : Fin 16, (k0_pay1 (laneAt l)).toNat = l.val / 2 := by decide +kernel
theorem pay2_toNat : ∀ l : Fin 16, (k0_pay2 (laneAt l)).toNat = l.val % 2 := by decide +kernel

theorem lane_eq (x : S16.Idx) : x = laneAt (x 0) := by
  funext a; match a with | 0 => rfl

theorem rowsFrom_toNat (n : ℕ) (hn : n < 16) (x : S16.Idx) : (rowsFrom (BitVec.ofNat 32 (8 * n)) x).toNat = (x 0).val / 2 + 8 * n := by
  have hx : (x 0).val < 16 := (x 0).isLt
  have h1 : (k0_pay1 x).toNat = (x 0).val / 2 := by
    have := pay1_toNat (x 0); rwa [← lane_eq x] at this
  show ((k0_pay1 x) + (BitVec.ofNat 32 (8 * n))).toNat = _
  rw [BitVec.toNat_add, h1, BitVec.toNat_ofNat]
  omega
theorem cols_toNat (x : S16.Idx) : (k0_pay2 x).toNat = (x 0).val % 2 := by
  have := pay2_toNat (x 0); rwa [← lane_eq x] at this

theorem lanes_inb (n : ℕ) (hn : n < 16) : ∀ a x, ((![rowsFrom (BitVec.ofNat 32 (8 * n)), k0_pay2] : Fin 2 → IVec S16 32) a x).toNat < S128x2.size a := by
  intro a x
  have hx : (x 0).val < 16 := (x 0).isLt
  match a with
  | 0 => show (rowsFrom (BitVec.ofNat 32 (8 * n)) x).toNat < 128; rw [rowsFrom_toNat n hn]; omega
  | 1 => show (k0_pay2 x).toNat < 2; rw [cols_toNat]; omega

section Run

variable [FloatOps F] (d : Dev nD) (L : grid0.Coords) (U : S2048.Idx → Elt F .f32)

/-- Run `n` of block `t` of the values. -/
def laneVals (t n : ℕ) : Vec F S16 .f32 := fun x => U (atL (256 * t + 16 * n + (x 0).val))

/-- The first `m` pairs hold block `t`'s values. -/
def PairsTo (t m : ℕ) (f : S128x2.Idx → Elt F .f32) : Prop := ∀ p k, p < m → k < 2 → f (atP p k) = U (atL (256 * t + 2 * p + k))

/-- The values and the pairs' buffer, its first `m` pairs being block `t`'s. -/
def Paired (t m : ℕ) : sProp 𝕄 :=
  iprop((vLoc d L ↦{fullShare} U) ∗ ∃ f, ⌜PairsTo U t m f⌝ ∗ bLoc d L ↦{fullShare} f)

theorem pairsTo_store {t n : ℕ} (hn : n < 16) {f : S128x2.Idx → Elt F .f32} (hf : PairsTo U t (8 * n) f)
    (h : ∀ a x, ((![rowsFrom (BitVec.ofNat 32 (8 * n)), k0_pay2] : Fin 2 → IVec S16 32) a x).toNat < S128x2.size a) :
    PairsTo U t (8 * (n + 1)) (storeIdx f (![rowsFrom (BitVec.ofNat 32 (8 * n)), k0_pay2] : Fin 2 → IVec S16 32) (laneVals U t n) (fun _ => 1#1) false h) := by
  intro p k hp hk
  refine storeIdx_at _ _ _ _ _ _ (fun l hl => ?_) fun hl => ?_
  · have hl16 : l.val < 16 := l.isLt
    have h0 : p % 128 = _ := (hl 0).trans (rowsFrom_toNat n hn _)
    have h1 : k % 2 = _ := (hl 1).trans (cols_toNat _)
    have e0 : ((Shape.ofLane l : S16.Idx) 0).val = l.val := rfl
    rw [e0] at h0 h1
    exact congrArg (fun n => U (atL n)) (by show 256 * t + 16 * n + l.val = _; omega)
  · refine hf p k (Nat.lt_of_not_le fun hle => ?_) hk
    refine hl (⟨2 * (p - 8 * n) + k, by show _ < 16; omega⟩ : Fin 16) fun a => ?_
    match a with
    | 0 =>
      refine Eq.trans ?_ (rowsFrom_toNat n hn _).symm
      show p % 128 = (2 * (p - 8 * n) + k) / 2 + 8 * n
      omega
    | 1 =>
      refine Eq.trans ?_ (cols_toNat _).symm
      show k % 2 = (2 * (p - 8 * n) + k) % 2
      omega

/-- A run's load. -/
theorem wp_laneLoad {t n : ℕ} {off : Fin 1 → Nat} (hoff : off = ![256 * t + 16 * n]) {hb : ∀ a, off a + S16.size a ≤ S2048.size a}
    {hl : rV.view.LoadsAt (Rect.unit (s := S2048) off S16.size hb).toLoadRect} {Q : Vec F S16 .f32 → sProp 𝕄} :
    Paired d L U t (8 * n)
      ⊢ iprop((Paired d L U t (8 * n) -∗ Q (laneVals U t n))
          -∗ wp frame (wpE (defs₀ (F := F)) 𝒱₀ (thrV d L) none) Set.univ
            (Prog.lift (TpuEff.load rV (Rect.unit (s := S2048) off S16.size hb).toLoadRect hl)
              : Prog (TpuEff nD τ sig (Elt F) Λ₀ (thrV d L).2) (Vec F S16 .f32)) Q) := by
  subst hoff
  unfold Paired
  iintro ⟨Hv, Hf⟩ Hk
  iapply (wp_load_rect 𝒱₀ (thrV d L) none Set.univ (m := rV) (r := Rect.unit (s := S2048) ![256 * t + 16 * n] S16.size hb)
    (k := fun v => Prog.ret v) (S := Finset.univ) (q := fullShare) (f := U) (Finset.subset_univ _)) $$ Hv
  iintro Hv
  rw [wp_ret]
  imodintro
  rw [show (rV.access (Rect.unit (s := S2048) ![256 * t + 16 * n] S16.size hb)).read (Elt F) U = laneVals U t n from
    funext fun x => congrArg U (atL_of (by
      show 256 * t + 16 * n + 1 * (x 0).val = _
      rw [Nat.one_mul]))]
  iapply Hk
  isplitl [Hv]; · iexact Hv
  iexact Hf

/-- A run's store, after the check of its places. -/
theorem wp_laneStore {t n : ℕ} (hn : n < 16) {rows : IVec S16 32} (hr : rows = rowsFrom (BitVec.ofNat 32 (8 * n))) {P : Prop} {dec : Decidable P} (hP : P)
    {v : Vec F S16 .f32} (hv : v = laneVals U t n)
    {h : PLift P → ∀ a x, ((![rows, k0_pay2] : Fin 2 → IVec S16 32) a x).toNat < S128x2.size a} {hs : PLift P → (bV.access (.whole S128x2)).Stores Finset.univ}
    {Q : PUnit → sProp 𝕄} :
    Paired d L U t (8 * n)
      ⊢ iprop((Paired d L U t (8 * (n + 1)) -∗ Q ⟨⟩)
          -∗ wp frame (wpE (defs₀ (F := F)) 𝒱₀ (thrV d L) none) Set.univ
            (Prog.lift (TpuEff.assume P dec) : Prog (TpuEff nD τ sig (Elt F) Λ₀ (thrV d L).2) (PLift P))
            (fun hw => wp frame (wpE (defs₀ (F := F)) 𝒱₀ (thrV d L) none) Set.univ
              (SparseCore.vectorStoreIdx bV ![rows, k0_pay2] v (fun _ => 1#1) false (h hw) (hs hw)
                : Prog (TpuEff nD τ sig (Elt F) Λ₀ (thrV d L).2) PUnit) Q)) := by
  subst hr hv
  unfold Paired
  iintro ⟨Hv, %f, %hf, Hb⟩ Hk
  iapply (wp_assume 𝒱₀ (thrV d L) none Set.univ (k := fun hw => Prog.ret hw) hP)
  rw [wp_ret]
  imodintro
  have hset : (bV.access (.whole S128x2)).set = Finset.univ := by decide
  ihave Hb' := (Entails.of_eq (show (bLoc d L ↦{fullShare} f : sProp 𝕄) = ((bV.access (.whole S128x2)).loc (thrV d L) ↦[(bV.access (.whole S128x2)).set]{fullShare} f) by rw [hset])) $$ Hb
  iapply (SparseCore.wp_vectorStoreIdx 𝒱₀ (thrV d L) none Set.univ (base := bV) (k := fun u => Prog.ret u)) $$ Hb'
  iintro Hb
  rw [wp_ret]
  imodintro
  iapply Hk
  isplitl [Hv]; · iexact Hv
  iexists _
  isplitr
  swap
  · iapply (Entails.of_eq (show ((bV.access (.whole S128x2)).loc (thrV d L) ↦[(bV.access (.whole S128x2)).set]{fullShare} _ : sProp 𝕄) = (bLoc d L ↦{fullShare} _) by rw [hset]))
    iexact Hb
  ipureintro
  have hpair := pairsTo_store U hn hf (h ⟨hP⟩)
  rw [show (bV.access (.whole S128x2)).read (Elt F) f = f from Memref.read_access_whole (Elt F) cc0_scratch2 f]
  have hw := Memref.write_access_whole_univ (Elt F) cc0_scratch2 f
    (storeIdx f (![rowsFrom (BitVec.ofNat 32 (8 * n)), k0_pay2] : Fin 2 → IVec S16 32) (laneVals U t n) (fun _ => 1#1) false (h ⟨hP⟩))
  exact fun p k hp hk => (congrFun hw (atP p k)).trans (hpair p k hp hk)

/-- The tile's state after `n` runs of a block. -/
def Upto (t n : ℕ) : sProp 𝕄 := Paired d L U t (8 * n)

/-- A run's load and its store, from what they leave to what they start from, beside a frame. -/
theorem lane_load {t n : ℕ} {R : sProp 𝕄} {off : Fin 1 → Nat} {hb : ∀ a, off a + S16.size a ≤ S2048.size a}
    {hl : rV.view.LoadsAt (Rect.unit (s := S2048) off S16.size hb).toLoadRect} {Q : Vec F S16 .f32 → sProp 𝕄}
    (hoff : off = ![256 * t + 16 * n]) (hQ : iprop(Upto d L U t n ∗ R) ⊢ Q (laneVals U t n)) :
    iprop(Upto d L U t n ∗ R)
      ⊢ wp frame (wpE (defs₀ (F := F)) 𝒱₀ (thrV d L) none) Set.univ
          (Prog.lift (TpuEff.load rV (Rect.unit (s := S2048) off S16.size hb).toLoadRect hl)
            : Prog (TpuEff nD τ sig (Elt F) Λ₀ (thrV d L).2) (Vec F S16 .f32)) Q := by
  unfold Upto at *
  iintro ⟨H, HR⟩
  iapply (wp_laneLoad d L U hoff) $$ H
  iintro H
  iapply hQ
  isplitl [H] <;> iassumption

theorem lane_store {t n : ℕ} {R : sProp 𝕄} {rows : IVec S16 32} {P : Prop} {dec : Decidable P} {v : Vec F S16 .f32}
    {h : PLift P → ∀ a x, ((![rows, k0_pay2] : Fin 2 → IVec S16 32) a x).toNat < S128x2.size a} {hs : PLift P → (bV.access (.whole S128x2)).Stores Finset.univ}
    {Q : PUnit → sProp 𝕄} (hn : n < 16) (hr : rows = rowsFrom (BitVec.ofNat 32 (8 * n))) (hP : P = ∀ a x, ((![rows, k0_pay2] : Fin 2 → IVec S16 32) a x).toNat < S128x2.size a) (hv : v = laneVals U t n)
    (hQ : iprop(Upto d L U t (n + 1) ∗ R) ⊢ Q ⟨⟩) :
    iprop(Upto d L U t n ∗ R)
      ⊢ wp frame (wpE (defs₀ (F := F)) 𝒱₀ (thrV d L) none) Set.univ
          (Prog.lift (TpuEff.assume P dec) : Prog (TpuEff nD τ sig (Elt F) Λ₀ (thrV d L).2) (PLift P))
          (fun hw => wp frame (wpE (defs₀ (F := F)) 𝒱₀ (thrV d L) none) Set.univ
            (SparseCore.vectorStoreIdx bV ![rows, k0_pay2] v (fun _ => 1#1) false (h hw) (hs hw)
              : Prog (TpuEff nD τ sig (Elt F) Λ₀ (thrV d L).2) PUnit) Q) := by
  unfold Upto at *
  iintro ⟨H, HR⟩
  iapply (wp_laneStore d L U hn hr (by rw [hP, hr]; exact lanes_inb n hn) hv) $$ H
  iintro H
  iapply hQ
  isplitl [H] <;> iassumption

end Run

end Cert.Proof
-- ==== Proof.Block.lean ====
/-
  The blocks of a worker: each one's 256 values laid out as 128 pairs, and the pairs copied into the worker's part of the
  result. After block `t` the first `128 (t + 1)` pairs of the part are the result's.
-/
module

public import proofs.«01_k».proof.Proof.Lanes

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev oV : Memref sig .scVector .hbm S4x8192x2 .f32 := Memref.whole main_v11_scv
abbrev aV : Memref sig .scVector .hbm S4x4x2048 .i32 := Memref.whole main_v7_scv
abbrev cV' : Memref sig .scVector .hbm S4x4x2048 .i32 := Memref.whole main_v10_scv

/-! ## Where a block goes -/

/-- Subcore `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

theorem coordsV_eta (L : grid0.Coords) : coordsV (L 0) (L 1) = L := by
  funext a; match a with | 0 => rfl | 1 => rfl

/-- A worker's first pair. -/
abbrev pair0 (w : ℕ) : ℕ := 4096 * (w / 16) + 1024 * (w % 4)

theorem off19_coords : ∀ (c : Fin (grid0.bound 0)) (s : Fin (grid0.bound 1)) (t : Fin k0_t1_loop.trips),
    k0_off19 (coordsV c s) t = ![(wk (coordsV c s) % 16) / 4, pair0 (wk (coordsV c s)) + 128 * t.val, 0] := by decide +kernel

theorem off19_eq (L : grid0.Coords) (t : Fin k0_t1_loop.trips) : k0_off19 L t = ![(wk L % 16) / 4, pair0 (wk L) + 128 * t.val, 0] := by
  have := off19_coords (L 0) (L 1) t; rwa [coordsV_eta] at this

theorem wk_lt (L : grid0.Coords) : wk L < 32 := by
  have h0 : (L 0).val < 2 := (L 0).isLt
  have h1 : (L 1).val < 16 := (L 1).isLt
  unfold wk; omega

abbrev oBlk (L : grid0.Coords) (t : Fin k0_t1_loop.trips) : Memref sig .scVector .hbm S128x2 .f32 :=
  (oV.slice (Rect.unit (s := S4x8192x2) (k0_off19 L t) S1x128x2.size (k0_off19_inb L t)) (fun _ => rfl)).squeeze S128x2 squeezes_S1x128x2_S128x2

/-- Where pair `x 0`, place `x 1` of the block is in the result. -/
theorem oBlk_emb (L : grid0.Coords) (t : Fin k0_t1_loop.trips) (x : S128x2.Idx) :
    ((oBlk L t).view.emb x 0).val = (wk L % 16) / 4 ∧ ((oBlk L t).view.emb x 1).val = pair0 (wk L) + 128 * t.val + (x 0).val
      ∧ ((oBlk L t).view.emb x 2).val = (x 1).val := by
  have e : (oBlk L t).view.emb x
      = (Rect.unit (s := S4x8192x2) (k0_off19 L t) S1x128x2.size (k0_off19_inb L t)).emb (Fin.cons ⟨0, Nat.one_pos⟩ x : S1x128x2.Idx) := by
    show (Rect.unit (s := S4x8192x2) (k0_off19 L t) S1x128x2.size (k0_off19_inb L t)).emb (Shape.reshapeEquiv _ x) = _
    rw [Shape.reshapeEquiv_cons_one]
  have h0 := congrFun (off19_eq L t) 0
  have h1 := congrFun (off19_eq L t) 1
  have h2 := congrFun (off19_eq L t) 2
  rw [e]
  refine ⟨?_, ?_, ?_⟩
  · show k0_off19 L t 0 + 1 * 0 = _; rw [h0]; rfl
  · show k0_off19 L t 1 + 1 * (x 0).val = _; rw [h1, Nat.one_mul]; rfl
  · show k0_off19 L t 2 + 1 * (x 1).val = _; rw [h2, Nat.one_mul]; exact Nat.zero_add _

/-- The elements of a block, by their coordinates. -/
theorem mem_oBlk (L : grid0.Coords) (t : Fin k0_t1_loop.trips) (j : S4x8192x2.Idx) :
    j ∈ (oBlk L t).view.set ↔ workerOf j = wk L ∧ 128 * t.val ≤ (j 1).val % 1024 ∧ (j 1).val % 1024 < 128 * (t.val + 1) := by
  have ht : t.val < 8 := t.isLt
  have hw := wk_lt L
  have j0 : (j 0).val < 4 := (j 0).isLt
  have j1 : (j 1).val < 8192 := (j 1).isLt
  have j2 : (j 2).val < 2 := (j 2).isLt
  rw [View.set, Finset.mem_map]
  constructor
  · rintro ⟨x, -, rfl⟩
    obtain ⟨e0, e1, e2⟩ := oBlk_emb L t x
    have x0 : (x 0).val < 128 := (x 0).isLt
    unfold workerOf
    rw [e0, e1]
    unfold pair0
    omega
  · rintro ⟨hj, hlo, hhi⟩
    unfold workerOf at hj
    refine ⟨atP ((j 1).val % 1024 - 128 * t.val) (j 2).val, Finset.mem_univ _, ?_⟩
    obtain ⟨e0, e1, e2⟩ := oBlk_emb L t (atP ((j 1).val % 1024 - 128 * t.val) (j 2).val)
    have p0 : ((atP ((j 1).val % 1024 - 128 * t.val) (j 2).val) 0).val = (j 1).val % 1024 - 128 * t.val := Nat.mod_eq_of_lt (by omega)
    have p1 : ((atP ((j 1).val % 1024 - 128 * t.val) (j 2).val) 1).val = (j 2).val := Nat.mod_eq_of_lt (by omega)
    rw [p0] at e1
    rw [p1] at e2
    unfold pair0 at e1
    funext a
    match a with
    | 0 => exact Fin.ext (e0.trans (by omega))
    | 1 => exact Fin.ext (e1.trans (by omega))
    | 2 => exact Fin.ext e2

section Run

variable [FloatOps F] (d : Dev nD) (L : grid0.Coords)
variable (X : S1048576.Idx → Elt F .f32) (G₀ G₁ : S4x4x2048.Idx → Elt F .i32)

/-- The first `m` pairs of the worker's part are the result's. -/
def DoneTo (m : ℕ) (f : S4x8192x2.Idx → Elt F .f32) : Prop := ∀ j ∈ region (wk L), (j 1).val % 1024 < m → f j = outOf X G₀ G₁ j

/-- Copying a block's pairs out finishes the block. -/
theorem doneTo_write {t : Fin k0_t1_loop.trips} {fo : S4x8192x2.Idx → Elt F .f32} (hfo : DoneTo L X G₀ G₁ (128 * t.val) fo)
    {f : S128x2.Idx → Elt F .f32} (hf : PairsTo (valsOf X G₀ G₁ (wk L)) t.val 128 f) :
    DoneTo L X G₀ G₁ (128 * (t.val + 1)) ((oBlk L t).view.write (Elt F) fo f Finset.univ) := by
  intro j hj hlt
  have hw : workerOf j = wk L := (Finset.mem_filter.mp hj).2
  by_cases hm : j ∈ (oBlk L t).view.set
  · obtain ⟨x, -, rfl⟩ := Finset.mem_map.mp hm
    obtain ⟨e0, e1, e2⟩ := oBlk_emb L t x
    have ht : t.val < 8 := t.isLt
    have hx0 : (x 0).val < 128 := (x 0).isLt
    have hx1 : (x 1).val < 2 := (x 1).isLt
    refine (View.write_emb_of_mem _ _ (Finset.mem_univ x)).trans ((cast_eq _ _).trans ?_)
    rw [show x = atP (x 0).val (x 1).val from atP_of rfl rfl, hf _ _ hx0 hx1, ← show x = atP (x 0).val (x 1).val from atP_of rfl rfl]
    unfold outOf
    rw [hw, e1, e2]
    exact congrArg (fun n => valsOf X G₀ G₁ (wk L) (atL n)) (by unfold pair0; omega)
  · rw [View.write_of_not_mem _ _ _ (by exact hm)]
    refine hfo j hj (Nat.lt_of_not_le fun hle => hm ((mem_oBlk L t j).mpr ⟨hw, hle, hlt⟩))

variable (O : CellTallies nD τ sig (HIx 1)) (W : Waits sig (HIx 1))

/-- Between blocks: the values gathered, the pairs' buffer free, `t` blocks of the worker's part done. -/
def Looped (t : ℕ) : sProp 𝕄 :=
  iprop((vLoc d L ↦{fullShare} valsOf X G₀ G₁ (wk L)) ∗ (∃ f, bLoc d L ↦{fullShare} f) ∗ semVal (oCell d L) 0 ∗ Owing d L O W
    ∗ ∃ fo, ⌜DoneTo L X G₀ G₁ (128 * t) fo⌝ ∗ oLoc d ↦[region (wk L)]{fullShare} fo)

/-- A block: sixteen runs laid out as pairs, then the copy out and its wait. -/
theorem wp_block (t : Fin k0_t1_loop.trips) (u : Unit) :
    Looped d L X G₀ G₁ O W t.val
      ⊢ wp frame (wpE (defs₀ (F := F)) 𝒱₀ (thrV d L) none) Set.univ
          (k0_t1_body L aV (Memref.isWhole_whole _) cV' (Memref.isWhole_whole _) xV (Memref.isWhole_whole _) oV (Memref.isWhole_whole _)
            iV (Memref.isWhole_whole _) rV (Memref.isWhole_whole _) bV (Memref.isWhole_whole _) cc0_scratch3 cc0_scoped0 cc0_scoped1 cc0_scoped2 k0_pay2 t u)
          fun _ => Looped d L X G₀ G₁ O W (t.val + 1) := by
  unfold k0_t1_body
  simp only [k0_part1_eq_skeleton, k0_part2_eq_skeleton, k0_part3_eq_skeleton]
  unfold k0_part1_skel k0_part2_skel k0_part3_skel
  simp only [Prog.pure_eq_ret, Prog.bind_assoc, Prog.bind_ret]
  simp only [wp_bind]
  -- the sixteen runs, run `n` taking the first `8 n` pairs to `8 (n + 1)`
  have start : Looped d L X G₀ G₁ O W t.val ⊢ iprop(Upto d L (valsOf X G₀ G₁ (wk L)) t.val 0 ∗ (semVal (oCell d L) 0 ∗ Owing d L O W
      ∗ ∃ fo, ⌜DoneTo L X G₀ G₁ (128 * t.val) fo⌝ ∗ oLoc d ↦[region (wk L)]{fullShare} fo)) := by
    unfold Looped Upto Paired
    iintro ⟨Hv, ⟨%f, Hb⟩, HR⟩
    isplitl [Hv Hb]
    · isplitl [Hv]; · iexact Hv
      iexists f
      isplitr; · ipureintro; exact fun p k hp => absurd hp (Nat.not_lt_zero _)
      iexact Hb
    iexact HR
  refine start.trans ?_
  iterate 16
    refine lane_load d L _ ?_ ?_
    · exact ClosedOff.eq
    refine lane_store d L _ ?_ ?_ ?_ ?_ ?_
    · decide
    · rfl
    · rfl
    · rfl
  unfold Upto Paired
  iintro ⟨⟨Hv, %f', %hf', Hb⟩, Hsem, Howe, %fo, %hfo, Ho⟩
  -- the copy out
  unfold Looped Owing
  icases Howe with ⟨#Hmw, %W', %hW, HO⟩
  have hsub : (oBlk L t).view.set ⊆ region (wk L) := fun j hj =>
    Finset.mem_filter.mpr ⟨Finset.mem_univ _, ((mem_oBlk L t j).mp hj).1⟩
  have hbset : bV.view.set = Finset.univ := View.set_whole _
  ihave Hb' := (Entails.of_eq (show (bLoc d L ↦{fullShare} f' : sProp 𝕄) = (bV.view.loc (thrV d L) ↦[bV.view.set]{fullShare} f') by rw [hbset])) $$ Hb
  iapply (Transfers.wp_dmaLocal countersEmb 𝒱₀ (thrV d L) none (dst := oBlk L t) (Sd := region (wk L)) (fd := fo) (k := fun u => Prog.ret u)
    (default : HIx 1) ((oBlk L t).view.amount (.dma cc0_scoped2.sem)) rfl (by show 0 < (main_v11_scv : Ref sig .scVector).dmaCredit S128x2 .f32; decide) hsub) $$ [Hb' Ho Hsem]
  · isplitl [Hb']; · iexact Hb'
    isplitl [Ho]; · iexact Ho
    iexact Hsem
  iintro Hfl
  rw [wp_ret]
  imodintro
  iapply (Transfers.wp_waitLocalO countersEmb 𝒱₀ (thrV d L) none (k := fun u => Prog.ret u) (default : HIx 1) rfl) $$ [Hfl HO]
  · isplitl [Hfl]; · iexact Hfl
    isplitl [HO]; · iexact HO
    iapply (Transfers.MayWaits.elim (SemLoc.dma cc0_scoped2.sem)) $$ Hmw
  iintro ⟨⟨Ho, Hb⟩, Hsem, HO⟩
  simp only [wp_ret]
  imodintro
  imodintro
  isplitl [Hv]; · iexact Hv
  isplitl [Hb]
  · ihave Hb := (Entails.of_eq (show (bV.view.loc (thrV d L) ↦[bV.view.set]{fullShare} f' : sProp 𝕄) = (bLoc d L ↦{fullShare} f') by rw [hbset])) $$ Hb
    iexists f'; iexact Hb
  isplitl [Hsem]; · iexact Hsem
  isplitl [HO]
  · isplitr; · iexact Hmw
    iexists (insert (SemLoc.dma cc0_scoped2.sem, (default : HIx 1)) W')
    isplitr; · ipureintro; exact waits_insert _ hW
    iexact HO
  iexists ((oBlk L t).view.write (Elt F) fo f' Finset.univ)
  isplitr; · ipureintro; exact doneTo_write L X G₀ G₁ hfo hf'
  iexact Ho

end Run

end Cert.Proof
-- ==== Proof.Tile.lean ====
/-
  A worker's run: its index list fetched, the sixteen gathers issued and waited for, the eight blocks. From shares of the
  table and of both index arrays, and the worker's part of the result, it leaves the part holding the result.
-/
module

public import proofs.«01_k».proof.Proof.Block

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The index list's place -/

theorem conds_coords : ∀ (c : Fin (grid0.bound 0)) (s : Fin (grid0.bound 1)),
    (k0_cond1 (coordsV c s) = 1#1 ↔ wk (coordsV c s) / 16 = 0) ∧ (k0_cond2 (coordsV c s) = 1#1 ↔ ¬ wk (coordsV c s) / 16 = 0)
      ∧ k0_off1 (coordsV c s) = ![(wk (coordsV c s) % 16) / 4, wk (coordsV c s) % 4, 0]
      ∧ k0_off2 (coordsV c s) = ![(wk (coordsV c s) % 16) / 4, wk (coordsV c s) % 4, 0] := by decide +kernel

theorem conds_eq (L : grid0.Coords) : (k0_cond1 L = 1#1 ↔ wk L / 16 = 0) ∧ (k0_cond2 L = 1#1 ↔ ¬ wk L / 16 = 0)
    ∧ k0_off1 L = ![(wk L % 16) / 4, wk L % 4, 0] ∧ k0_off2 L = ![(wk L % 16) / 4, wk L % 4, 0] := by
  have := conds_coords (L 0) (L 1); rwa [coordsV_eta] at this

/-- Entry `x` of the list at `(b, q)` is element `(b, q, x)` of the array. -/
theorem list_emb {off : Fin 3 → Nat} {b q : ℕ} (hoff : off = ![b, q, 0]) (hb : ∀ a, off a + S1x1x2048.size a ≤ S4x4x2048.size a)
    (hn : S2048.numel = S1x1x2048.numel) (x : S2048.Idx) :
    (Rect.unit (s := S4x4x2048) off S1x1x2048.size hb).emb (Shape.reshapeEquiv hn x) = at3 b q (x 0).val := by
  have hn' : S2048.numel = (⟨2, ![1, 2048]⟩ : Shape).numel := by decide
  have e : Shape.reshapeEquiv hn x = (Fin.cons ⟨0, Nat.one_pos⟩ (Fin.cons ⟨0, Nat.one_pos⟩ x : (⟨2, ![1, 2048]⟩ : Shape).Idx) : S1x1x2048.Idx) := by
    refine (Shape.reshapeEquiv_reshapeEquiv (hn'.symm.trans hn) hn' x).symm.trans ?_
    refine (Shape.reshapeEquiv_cons_one _ _).trans ?_
    exact congrArg (fun y => (Fin.cons ⟨0, Nat.one_pos⟩ y : S1x1x2048.Idx)) (Shape.reshapeEquiv_cons_one _ _)
  rw [e]
  refine at3_of ?_ ?_ ?_
  · show off 0 + 1 * 0 = _; rw [hoff]; rfl
  · show off 1 + 1 * 0 = _; rw [hoff]; rfl
  · show off 2 + 1 * (x 0).val = _; rw [hoff, Nat.one_mul]; exact Nat.zero_add _

section Run

variable [FloatOps F] (d : Dev nD) (L : grid0.Coords)
variable (X : S1048576.Idx → Elt F .f32) (G₀ G₁ : S4x4x2048.Idx → Elt F .i32)
variable {O : CellTallies nD τ sig (HIx 1)} {W : Waits sig (HIx 1)}

/-! ## One step of the run, beside a frame -/

section Steps

variable {α : Type} {k : PUnit → Prog (TpuEff nD τ sig (Elt F) Λ₀ (thrV d L).2) α}

/-- The fetch of the list and its wait. -/
theorem fetch_step {R : sProp 𝕄} {Q : α → sProp 𝕄} {A : Memref sig .scVector .hbm S2048 .i32} {q : PosShare TreeShare} {G : Buf (Elt F) (A.view.loc (thrV d L))} {sm : DmaSem sig}
    {h₁ : A.view.WordExact} {h₂ : iV.view.WordExact} {h₃ : DmaTarget.Typed (nD := nD) (p := (thrV d L).2) Space.hbm (.dma sm) (.here iV)}
    (hA : ∀ x, A.view.read (Elt F) G x = listOf (F := F) G₀ G₁ (wk L) x)
    (hQ : iprop((iLoc d L ↦{fullShare} listOf (F := F) G₀ G₁ (wk L)) ∗ semVal (thrV d L, .dma sm) 0 ∗ Owing d L O W ∗ R)
      ⊢ wp frame (wpE (defs₀ (F := F)) 𝒱₀ (thrV d L) none) Set.univ (k ⟨⟩) Q) :
    iprop((A.view.loc (thrV d L) ↦[A.view.set]{q} G) ∗ (∃ f, iLoc d L ↦{fullShare} f) ∗ semVal (thrV d L, .dma sm) 0 ∗ Owing d L O W ∗ R)
      ⊢ wp frame (wpE (defs₀ (F := F)) 𝒱₀ (thrV d L) none) Set.univ
          (Prog.lift (TpuEff.enqueueDma A (.here iV) (.dma sm) h₁ h₂ h₃) >>= fun _ => Prog.lift (TpuEff.waitDma2 sm A iV h₁ h₂) >>= k) Q := by
  iintro ⟨HA, ⟨%f, Hi⟩, Hsem, Howe, HR⟩
  unfold Owing
  icases Howe with ⟨#Hmw, %W', %hW, HO⟩
  iapply (Transfers.wp_dmaLocal countersEmb 𝒱₀ (thrV d L) none (dst := iV) (Sd := Finset.univ) (fd := f)
    (default : HIx 1) (iV.view.amount (.dma sm)) rfl (by show 0 < (cc0_scratch0 : Ref sig .scVector).dmaCredit S2048 .i32; decide) (Finset.subset_univ _)) $$ [HA Hi Hsem]
  · isplitl [HA]; · iexact HA
    isplitl [Hi]; · iexact Hi
    iexact Hsem
  iintro Hfl
  iapply (Transfers.wp_waitLocalO countersEmb 𝒱₀ (thrV d L) none (default : HIx 1) rfl) $$ [Hfl HO]
  · isplitl [Hfl]; · iexact Hfl
    isplitl [HO]; · iexact HO
    iapply (Transfers.MayWaits.elim (SemLoc.dma sm)) $$ Hmw
  iintro ⟨⟨Hi, -⟩, Hsem, HO⟩
  iapply hQ
  isplitl [Hi]
  · ihave Hi := (Entails.of_eq (pointsTo_congr (ℓ := iLoc d L) (g := listOf (F := F) G₀ G₁ (wk L)) (fun i _ =>
      (congrFun (View.write_whole_univ (cc0_scratch0 : Ref sig .scVector) _ _) i).trans (hA i)))) $$ Hi
    iexact Hi
  isplitl [Hsem]; · iexact Hsem
  isplitl [HO]
  · unfold Owing
    isplitr; · iexact Hmw
    iexists (insert (SemLoc.dma sm, (default : HIx 1)) W')
    isplitr; · ipureintro; exact waits_insert _ hW
    iexact HO
  iexact HR

variable {o : ℕ} {h : ∀ a, (![o] : Fin 1 → Nat) a + S128.size a ≤ S2048.size a}

theorem issue_step {R : sProp 𝕄} {Q : α → sProp 𝕄} {hn : S128.numel = S128.size hG.axis'}
    {hp : (thrV d L).2.kind = .scVector} {hsrc : xAll.view.WordExact} {he : EltTy.f32.bits = 32} {hsp : Space.hbm = .hbm ∨ Space.hbm = .shared}
    {hr : S1048576.StreamRows 0} (hin : ∀ i, (BitVec.toNat (listOf (F := F) G₀ G₁ (wk L) i)) < 1048576)
    (hQ : iprop(Issuing d L X G₀ G₁ (o + 128) ∗ R) ⊢ wp frame (wpE (defs₀ (F := F)) 𝒱₀ (thrV d L) none) Set.univ (k ⟨⟩) Q) :
    iprop(Issuing d L X G₀ G₁ o ∗ R)
      ⊢ wp frame (wpE (defs₀ (F := F)) 𝒱₀ (thrV d L) none) Set.univ
          (SparseCore.enqueueIndirectGather hp xAll (runV o h) hG (runI o h) hn cc0_scratch3.sem hsrc he hsp hr >>= k) Q := by
  iintro ⟨H, HR⟩
  iapply (wp_issue o h d L X G₀ G₁ hin) $$ H
  iintro H
  iapply hQ
  isplitl [H] <;> iassumption

theorem wait_step {R : sProp 𝕄} {Q : α → sProp 𝕄} {u : ℕ} {hsrc : xAll.view.WordExact} {hdst : (runV o h).view.WordExact} (hu : u + 128 ≤ 2048)
    (hQ : iprop(Waiting d L X G₀ G₁ O W (u + 128) ∗ R) ⊢ wp frame (wpE (defs₀ (F := F)) 𝒱₀ (thrV d L) none) Set.univ (k ⟨⟩) Q) :
    iprop(Waiting d L X G₀ G₁ O W u ∗ R)
      ⊢ wp frame (wpE (defs₀ (F := F)) 𝒱₀ (thrV d L) none) Set.univ
          (SparseCore.waitIndirectGather cc0_scratch3.sem xAll (runV o h) hsrc hdst >>= k) Q := by
  iintro ⟨H, HR⟩
  iapply (wp_wait o h d L X G₀ G₁ u hu) $$ H
  iintro H
  iapply hQ
  isplitl [H] <;> iassumption

theorem wait_last_step {R : sProp 𝕄} {Q : α → sProp 𝕄} {hsrc : xAll.view.WordExact} {hdst : (runV o h).view.WordExact}
    (hQ : iprop((iprop((vLoc d L ↦{fullShare} valsOf X G₀ G₁ (wk L)) ∗ (iLoc d L ↦{fullShare} listOf (F := F) G₀ G₁ (wk L))
              ∗ semVal (gCell d L) 0 ∗ Owing d L O W)) ∗ R) ⊢ wp frame (wpE (defs₀ (F := F)) 𝒱₀ (thrV d L) none) Set.univ (k ⟨⟩) Q) :
    iprop(Waiting d L X G₀ G₁ O W 1920 ∗ R)
      ⊢ wp frame (wpE (defs₀ (F := F)) 𝒱₀ (thrV d L) none) Set.univ
          (SparseCore.waitIndirectGather cc0_scratch3.sem xAll (runV o h) hsrc hdst >>= k) Q := by
  iintro ⟨H, HR⟩
  iapply (wp_wait_last o h d L X G₀ G₁) $$ H
  iintro H
  iapply hQ
  isplitl [H] <;> iassumption

end Steps

/-- What the run holds beside the lists while it gathers. -/
def Aside (fo : S4x8192x2.Idx → Elt F .f32) : sProp 𝕄 :=
  iprop((∃ f, bLoc d L ↦{fullShare} f) ∗ semVal (aCell d L) 0 ∗ semVal (bCell d L) 0 ∗ semVal (oCell d L) 0
    ∗ oLoc d ↦[region (wk L)]{fullShare} fo)

/-- What the run holds beside the list while it fetches on one of the two semaphores, `g` being the other. -/
def Beside (q : PosShare TreeShare) (fo : S4x8192x2.Idx → Elt F .f32) (g : GSem nD τ sig) : sProp 𝕄 :=
  iprop((xLoc d ↦{q} X) ∗ (∃ f, vLoc d L ↦{fullShare} f) ∗ semVal (gCell d L) 0 ∗ (∃ f, bLoc d L ↦{fullShare} f) ∗ semVal g 0
    ∗ semVal (oCell d L) 0 ∗ oLoc d ↦[region (wk L)]{fullShare} fo)

theorem beside_ready {q : PosShare TreeShare} {fo : S4x8192x2.Idx → Elt F .f32} {g g' : GSem nD τ sig}
    (hg : (g = aCell d L ∧ g' = bCell d L) ∨ (g = bCell d L ∧ g' = aCell d L)) :
    iprop((iLoc d L ↦{fullShare} listOf (F := F) G₀ G₁ (wk L)) ∗ semVal g 0 ∗ Owing d L O W ∗ Beside d L X q fo g')
      ⊢ iprop((iLoc d L ↦{fullShare} listOf (F := F) G₀ G₁ (wk L)) ∗ (xLoc d ↦{q} X) ∗ (∃ f, vLoc d L ↦{fullShare} f) ∗ semVal (gCell d L) 0
        ∗ (Owing d L O W ∗ Aside d L fo)) := by
  unfold Aside Beside
  iintro ⟨Hi, Hs, HO, Hx, Hv, Hg, Hb, Hs', Hso, Ho⟩
  isplitl [Hi]; · iexact Hi
  isplitl [Hx]; · iexact Hx
  isplitl [Hv]; · iexact Hv
  isplitl [Hg]; · iexact Hg
  isplitl [HO]; · iexact HO
  isplitl [Hb]; · iexact Hb
  rcases hg with ⟨rfl, rfl⟩ | ⟨rfl, rfl⟩
  · isplitl [Hs]; · iexact Hs
    isplitl [Hs']; · iexact Hs'
    isplitl [Hso] <;> iassumption
  · isplitl [Hs']; · iexact Hs'
    isplitl [Hs]; · iexact Hs
    isplitl [Hso] <;> iassumption

/-- With the list fetched: everything ready to gather. -/
theorem gather_start {q : PosShare TreeShare} {R : sProp 𝕄} :
    iprop((iLoc d L ↦{fullShare} listOf (F := F) G₀ G₁ (wk L)) ∗ (xLoc d ↦{q} X) ∗ (∃ f, vLoc d L ↦{fullShare} f) ∗ semVal (gCell d L) 0 ∗ R)
      ⊢ |={Set.univ}=> iprop(Issuing d L X G₀ G₁ 0 ∗ R) := by
  iintro ⟨Hi, Hx, Hv, Hsem, HR⟩
  imod (Transfers.batch_alloc' countersEmb (thrV d L) (default : HIx 1) rowN (entryOf d L X G₀ G₁) (E := Set.univ)) $$ Hsem with Hb
  imodintro
  isplitr [HR]; swap; · iexact HR
  unfold Issuing
  isplitl [Hx]; · iexists q; iexact Hx
  rw [later_zero]
  isplitl [Hv]; · iexact Hv
  isplitl [Hi]; · iexact Hi
  rw [gathering, Nat.zero_mul]
  iexact Hb

theorem all_issued {R : sProp 𝕄} : iprop(Issuing d L X G₀ G₁ 2048 ∗ (Owing d L O W ∗ R)) ⊢ iprop(Waiting d L X G₀ G₁ O W 0 ∗ R) := by
  unfold Issuing Waiting
  iintro ⟨⟨-, -, -, Hb⟩, HO, HR⟩
  isplitr [HR]; swap; · iexact HR
  isplitl [Hb] <;> iassumption

abbrev aBlk (h : k0_cond1 L = 1#1) : Memref sig .scVector .hbm S2048 .i32 :=
  (aV.slice (Rect.unit (s := S4x4x2048) (k0_off1 L) S1x1x2048.size (k0_off1_inb L h)) (fun _ => rfl)).squeeze S2048 squeezes_S1x1x2048_S2048
abbrev cBlk (h : k0_cond2 L = 1#1) : Memref sig .scVector .hbm S2048 .i32 :=
  (cV'.slice (Rect.unit (s := S4x4x2048) (k0_off2 L) S1x1x2048.size (k0_off2_inb L h)) (fun _ => rfl)).squeeze S2048 squeezes_S1x1x2048_S2048

theorem aBlk_read (h : k0_cond1 L = 1#1) (x : S2048.Idx) : (aBlk L h).view.read (Elt F) G₀ x = listOf (F := F) G₀ G₁ (wk L) x := by
  refine (View.read_apply _ _).trans ((cast_eq _ _).trans ?_)
  unfold listOf
  rw [if_pos ((conds_eq L).1.mp h)]
  exact congrArg G₀ (list_emb (conds_eq L).2.2.1 _ _ x)

theorem cBlk_read (h : k0_cond2 L = 1#1) (x : S2048.Idx) : (cBlk L h).view.read (Elt F) G₁ x = listOf (F := F) G₀ G₁ (wk L) x := by
  refine (View.read_apply _ _).trans ((cast_eq _ _).trans ?_)
  unfold listOf
  rw [if_neg ((conds_eq L).2.1.mp h)]
  exact congrArg G₁ (list_emb (conds_eq L).2.2.2 _ _ x)

/-- A whole array's share gives the share of a list's place in it, and the fetch may start. -/
theorem fetch_start {P A : sProp 𝕄} {q : PosShare TreeShare} {fo : S4x8192x2.Idx → Elt F .f32} {g g' : GSem nD τ sig}
    (hg : (g = aCell d L ∧ g' = bCell d L) ∨ (g = bCell d L ∧ g' = aCell d L)) (hA : P ⊢ A) :
    iprop((xLoc d ↦{q} X) ∗ P ∗ (∃ f, iLoc d L ↦{fullShare} f) ∗ (∃ f, vLoc d L ↦{fullShare} f) ∗ semVal (gCell d L) 0 ∗ Owing d L O W ∗ Aside d L fo)
      ⊢ iprop(A ∗ (∃ f, iLoc d L ↦{fullShare} f) ∗ semVal g 0 ∗ Owing d L O W ∗ Beside d L X q fo g') := by
  unfold Aside Beside
  iintro ⟨Hx, HP, Hi, Hv, Hg, HO, Hb, Hsa, Hsb, Hso, Ho⟩
  isplitl [HP]; · iapply hA; iexact HP
  isplitl [Hi]; · iexact Hi
  rcases hg with ⟨rfl, rfl⟩ | ⟨rfl, rfl⟩
  · isplitl [Hsa]; · iexact Hsa
    isplitl [HO]; · iexact HO
    isplitl [Hx]; · iexact Hx
    isplitl [Hv]; · iexact Hv
    isplitl [Hg]; · iexact Hg
    isplitl [Hb]; · iexact Hb
    isplitl [Hsb]; · iexact Hsb
    isplitl [Hso] <;> iassumption
  · isplitl [Hsb]; · iexact Hsb
    isplitl [HO]; · iexact HO
    isplitl [Hx]; · iexact Hx
    isplitl [Hv]; · iexact Hv
    isplitl [Hg]; · iexact Hg
    isplitl [Hb]; · iexact Hb
    isplitl [Hsa]; · iexact Hsa
    isplitl [Hso] <;> iassumption

theorem share_a {q₂ q₃ : PosShare TreeShare} (h : k0_cond1 L = 1#1) :
    iprop((g₀Loc d ↦{q₂} G₀) ∗ (g₁Loc d ↦{q₃} G₁)) ⊢ (((aBlk L h).view.loc (thrV d L) ↦[(aBlk L h).view.set]{q₂} G₀) : sProp 𝕄) := by
  iintro ⟨Ha, -⟩
  ihave Ha := (pointsTo_split_subset (Finset.subset_univ (aBlk L h).view.set)).1 $$ Ha
  icases Ha with ⟨Ha, -⟩
  iexact Ha
theorem share_c {q₂ q₃ : PosShare TreeShare} (h : k0_cond2 L = 1#1) :
    iprop((g₀Loc d ↦{q₂} G₀) ∗ (g₁Loc d ↦{q₃} G₁)) ⊢ (((cBlk L h).view.loc (thrV d L) ↦[(cBlk L h).view.set]{q₃} G₁) : sProp 𝕄) := by
  iintro ⟨-, Hc⟩
  ihave Hc := (pointsTo_split_subset (Finset.subset_univ (cBlk L h).view.set)).1 $$ Hc
  icases Hc with ⟨Hc, -⟩
  iexact Hc

/-- The kernel on one subcore. -/
theorem wp_tile {q₁ q₂ q₃ : PosShare TreeShare} {fo : S4x8192x2.Idx → Elt F .f32} (hin : ∀ i, (BitVec.toNat (listOf (F := F) G₀ G₁ (wk L) i)) < 1048576) :
    iprop((xLoc d ↦{q₁} X) ∗ iprop((g₀Loc d ↦{q₂} G₀) ∗ (g₁Loc d ↦{q₃} G₁)) ∗ (∃ f, iLoc d L ↦{fullShare} f) ∗ (∃ f, vLoc d L ↦{fullShare} f)
        ∗ semVal (gCell d L) 0 ∗ Owing d L O W ∗ Aside d L fo)
      ⊢ wp frame (wpE (defs₀ (F := F)) 𝒱₀ (thrV d L) none) Set.univ
          (cc0__sc_gather L aV (Memref.isWhole_whole _) cV' (Memref.isWhole_whole _) xV (Memref.isWhole_whole _) oV (Memref.isWhole_whole _)
            iV (Memref.isWhole_whole _) rV (Memref.isWhole_whole _) bV (Memref.isWhole_whole _) cc0_scratch3 cc0_scoped0 cc0_scoped1 cc0_scoped2)
          fun _ => iprop((∃ f, iLoc d L ↦{fullShare} f) ∗ (∃ f, vLoc d L ↦{fullShare} f) ∗ semVal (gCell d L) 0 ∗ Owing d L O W ∗ Aside d L (outOf X G₀ G₁)) := by
  simp only [cc0__sc_gather_eq_skeleton]
  unfold cc0__sc_gather_skel
  simp only [k0_part4_eq_skeleton, k0_part5_eq_skeleton, k0_part6_eq_skeleton, k0_part7_eq_skeleton, k0_part8_eq_skeleton]
  unfold k0_part4_skel k0_part5_skel k0_part6_skel k0_part7_skel k0_part8_skel
  by_cases hhalf : wk L / 16 = 0
  on_goal 1 =>
    have h1 := (conds_eq L).1.mpr hhalf
    have h2 : ¬ k0_cond2 L = 1#1 := fun h => (conds_eq L).2.1.mp h hhalf
    simp only [↓dif_pos h1, ↓dif_neg h2, Prog.pure_eq_ret, Prog.bind_assoc, Prog.bind_ret]
    refine (fetch_start d L X (Or.inl ⟨rfl, rfl⟩) (share_a d L G₀ G₁ h1)).trans (fetch_step d L G₀ G₁ (aBlk_read L G₀ G₁ h1)
      ((beside_ready d L X G₀ G₁ (Or.inl ⟨rfl, rfl⟩)).trans ?_))
  on_goal 2 =>
    have h1 : ¬ k0_cond1 L = 1#1 := fun h => hhalf ((conds_eq L).1.mp h)
    have h2 := (conds_eq L).2.1.mpr hhalf
    simp only [↓dif_neg h1, ↓dif_pos h2, Prog.pure_eq_ret, Prog.bind_assoc, Prog.bind_ret]
    refine (fetch_start d L X (Or.inr ⟨rfl, rfl⟩) (share_c d L G₀ G₁ h2)).trans (fetch_step d L G₀ G₁ (cBlk_read L G₀ G₁ h2)
      ((beside_ready d L X G₀ G₁ (Or.inr ⟨rfl, rfl⟩)).trans ?_))
  all_goals
    refine (gather_start d L X G₀ G₁).trans ((fupd_mono ?_).trans (fupd_wp _ _ _ _ _))
    iterate 16
      refine issue_step d L X G₀ G₁ hin ?_
    refine (all_issued d L X G₀ G₁).trans ?_
    iterate 15
      refine wait_step d L X G₀ G₁ ?_ ?_
      · decide
    refine wait_last_step d L X G₀ G₁ ?_
    unfold Aside
    iintro ⟨⟨Hv, Hi, Hg, HO⟩, Hb, Hsa, Hsb, Hso, Ho⟩
    iapply (Scf.wp_for_bind frame (wpE (defs₀ (F := F)) 𝒱₀ (thrV d L) none) Set.univ k0_t1_loop.lb k0_t1_loop.ub k0_t1_loop.st k0_t1_ok ⟨⟩ _
      (fun t _ => Looped d L X G₀ G₁ O W t) (wp_block d L X G₀ G₁ O W)) $$ [Hv Hb Hso HO Ho]
    · unfold Looped
      isplitl [Hv]; · iexact Hv
      isplitl [Hb]; · iexact Hb
      isplitl [Hso]; · iexact Hso
      isplitl [HO]; · iexact HO
      iexists fo
      isplitr; · ipureintro; exact fun j _ hj => absurd hj (Nat.not_lt_zero _)
      iexact Ho
    iintro %u HL
    unfold Looped
    icases HL with ⟨Hv, Hb, Hso, HO, %fo', %hfo, Ho⟩
    rw [wp_ret]
    imodintro
    isplitl [Hi]; · iexists _; iexact Hi
    isplitl [Hv]; · iexists _; iexact Hv
    isplitl [Hg]; · iexact Hg
    isplitl [HO]; · iexact HO
    isplitl [Hb]; · iexact Hb
    isplitl [Hsa]; · iexact Hsa
    isplitl [Hsb]; · iexact Hsb
    isplitl [Hso]; · iexact Hso
    ihave Ho := (Entails.of_eq (pointsTo_congr (ℓ := oLoc d) (g := outOf X G₀ G₁) (fun j hj => hfo j hj (Nat.mod_lt _ (by decide))))) $$ Ho
    iexact Ho

end Run

end Cert.Proof
-- ==== Proof.Launch.lean ====
/-
  The launch: what the call's handshakes carry, the worker's run as the call's task, and how a core's part of the result
  splits among its sixteen workers and joins again.
-/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (X : Dev nD → S1048576.Idx → Elt F .f32) (G₀ G₁ : Dev nD → S4x4x2048.Idx → Elt F .i32)

/-! ## What is read: a share of the table and of the two index arrays -/

/-- A share of an array, at some size: it splits in two as often as wanted. -/
abbrev Part (ℓ : Loc nD τ sig) (f : Buf (Elt F) ℓ) : sProp 𝕄 := iprop(∃ q : PosShare TreeShare, ℓ ↦{q} f)

theorem part_two (ℓ : Loc nD τ sig) (f : Buf (Elt F) ℓ) : Part ℓ f ⊢ (iprop(Part ℓ f ∗ Part ℓ f) : sProp 𝕄) := by
  iintro ⟨%q, H⟩
  ihave H' := (pointsTo_share (PosShare.mem_left_op_right q)).1 $$ H
  icases H' with ⟨H₁, H₂⟩
  isplitl [H₁]
  · iexists q.left; iexact H₁
  · iexists q.right; iexact H₂

/-- What a worker reads. -/
def Inputs (d : Dev nD) : sProp 𝕄 := iprop(Part (xLoc d) (X d) ∗ Part (g₀Loc d) (G₀ d) ∗ Part (g₁Loc d) (G₁ d))

theorem inputs_two (d : Dev nD) : Inputs X G₀ G₁ d ⊢ (iprop(Inputs X G₀ G₁ d ∗ Inputs X G₀ G₁ d) : sProp 𝕄) := by
  unfold Inputs
  iintro ⟨Hx, H₀, H₁⟩
  ihave Hx' := (part_two _ _) $$ Hx
  ihave H₀' := (part_two _ _) $$ H₀
  ihave H₁' := (part_two _ _) $$ H₁
  icases Hx' with ⟨Hx, Hx'⟩
  icases H₀' with ⟨H₀, H₀'⟩
  icases H₁' with ⟨H₁, H₁'⟩
  isplitl [Hx H₀ H₁]
  · isplitl [Hx]; · iexact Hx
    isplitl [H₀] <;> iassumption
  · isplitl [Hx']; · iexact Hx'
    isplitl [H₀'] <;> iassumption

/-- What splits in two splits among any number. -/
theorem bigSep_of_two {I : Type} [DecidableEq I] (A : sProp 𝕄) (h : A ⊢ iprop(A ∗ A)) (s : Finset I) : A ⊢ (bigSep s fun _ => A) := by
  induction s using Finset.induction_on with
  | empty => rw [bigSep_empty]; iintro -; iempintro
  | insert a s ha ih =>
    rw [SparseCore.bigSep_insert' ha]
    exact h.trans (sep_mono .rfl ih)

/-! ## What the handshakes carry -/

abbrev outPart (d : Dev nD) (I : Finset S4x8192x2.Idx) : sProp 𝕄 := oLoc d ↦[I]{fullShare} outOf (X d) (G₀ d) (G₁ d)
abbrev anyPart (d : Dev nD) (I : Finset S4x8192x2.Idx) : sProp 𝕄 := iprop(∃ f, oLoc d ↦[I]{fullShare} f)

/-- A core takes shares of what is read and its part of the result, and brings the part back written; a worker likewise. -/
def P : (K (F := F)).Pay (nD := nD) (Val := Elt F) (Name := ℕ) (U := UU) where
  st := fun q d c => match q with | 0 => iprop(Inputs X G₀ G₁ d ∗ anyPart d (coreRegion c.val))
  dn := fun q d c => match q with | 0 => outPart X G₀ G₁ d (coreRegion c.val)
  go := fun q d c i => match q with | 0 => iprop(Inputs X G₀ G₁ d ∗ anyPart d (region (2 * i.val + c.val)))
  td := fun q d c i => match q with | 0 => outPart X G₀ G₁ d (region (2 * i.val + c.val))
  x := fun _ _ => iprop(emp)

instance inputs_storable (d : Dev nD) : BI.Storable (upEmb : UEmb _ 𝕄) (Inputs X G₀ G₁ d) := by unfold Inputs; infer_instance

instance P_storable : (P X G₀ G₁).IsStorable where
  st q d c := match q with
    | 0 => (inferInstance : BI.Storable (upEmb : UEmb _ 𝕄) iprop(Inputs X G₀ G₁ d ∗ anyPart d (coreRegion c.val)))
  dn q d c := match q with
    | 0 => (inferInstance : BI.Storable (upEmb : UEmb _ 𝕄) (outPart X G₀ G₁ d (coreRegion c.val)))
  go q d c i := match q with
    | 0 => (inferInstance : BI.Storable (upEmb : UEmb _ 𝕄) iprop(Inputs X G₀ G₁ d ∗ anyPart d (region (2 * i.val + c.val))))
  td q d c i := match q with
    | 0 => (inferInstance : BI.Storable (upEmb : UEmb _ 𝕄) (outPart X G₀ G₁ d (region (2 * i.val + c.val))))

/-- Every index a worker is handed names an entry of the table. -/
def Listed : Prop := ∀ (d : Dev nD) (w : ℕ) (i : S2048.Idx), BitVec.toNat (listOf (F := F) (G₀ d) (G₁ d) w i) < 1048576

/-! ## The task -/

section Task

variable [FloatOps F]

theorem tile_body (d : Dev nD) (L : grid0.Coords) (hin : Listed (F := F) G₀ G₁) (O : CellTallies nD τ sig (HIx 1)) (W : Waits sig (HIx 1))
    (hO : ∀ g, O g none = 0) :
    iprop(levAts (K (F := F)).L (K (F := F)).lev ∗ emp ∗ (Inputs X G₀ G₁ d ∗ anyPart d (region (wk L)))
        ∗ scopedBufs (thrV d L) ∗ scopedSems0 (thrV d L) ∗ owes (thrV d L) O W)
      ⊢ wp frame (wpE (defs₀ (F := F)) 𝒱₀ (thrV d L) none) Set.univ
          (cc0__sc_gather L aV (Memref.isWhole_whole _) cV' (Memref.isWhole_whole _) xV (Memref.isWhole_whole _) oV (Memref.isWhole_whole _)
            iV (Memref.isWhole_whole _) rV (Memref.isWhole_whole _) bV (Memref.isWhole_whole _) cc0_scratch3 cc0_scoped0 cc0_scoped1 cc0_scoped2)
          fun _ => iprop(outPart X G₀ G₁ d (region (wk L)) ∗ scopedBufs (thrV d L) ∗ scopedSems0 (thrV d L)
            ∗ ∃ W', ⌜∀ p ∈ W', p ∈ W ∨ p.2 = none⌝ ∗ owes (thrV d L) O W') := by
  rw [(K (F := F)).scopedBufs_V facts d (cV L) (jV L), SparseCore.Cfg.scopedSems0_V (Val := Elt F) d (cV L) (jV L), ownSems0_V, ownBufs_V]
  unfold Inputs
  iintro ⟨#Hlv, -, ⟨⟨⟨%q₁, Hx⟩, ⟨%q₂, H₀⟩, ⟨%q₃, H₁⟩⟩, ⟨%fo, Ho⟩⟩, ⟨Hi, Hv, Hb, Hbufs⟩, ⟨Hg, Ha, Hc, Hos, Hsems⟩, HO⟩
  ihave Hmw := (show levAts (K (F := F)).L (K (F := F)).lev ⊢ Transfers.MayWaits (thrV d L) (default : HIx 1) O from
    (K (F := F)).mayWaits_none (thr := thrV d L) hO) $$ Hlv
  ihave Hw := (wp_tile d L (X d) (G₀ d) (G₁ d) (O := O) (W := W) (q₁ := q₁) (q₂ := q₂) (q₃ := q₃) (fo := fo) (hin d (wk L)))
    $$ [Hx H₀ H₁ Ho Hi Hv Hb Hg Ha Hc Hos HO]
  · unfold Owing Aside
    isplitl [Hx]; · iexact Hx
    isplitl [H₀ H₁]; · isplitl [H₀] <;> iassumption
    isplitl [Hi]; · iexact Hi
    isplitl [Hv]; · iexact Hv
    isplitl [Hg]; · iexact Hg
    isplitl [HO]
    · isplitr; · iexact Hmw
      iexists W; isplitr
      · ipureintro; exact fun p hp => Or.inl hp
      · iexact HO
    isplitl [Hb]; · iexact Hb
    isplitl [Ha]; · iexact Ha
    isplitl [Hc]; · iexact Hc
    isplitl [Hos]; · iexact Hos
    iexact Ho
  iapply (wp_wand frame _ _) $$ Hw
  iintro %u H
  unfold Owing Aside
  icases H with ⟨Hi, Hv, Hg, ⟨-, HO⟩, ⟨Hb, Ha, Hc, Hos, Ho⟩⟩
  isplitl [Ho]; · iexact Ho
  isplitl [Hi Hv Hb Hbufs]
  · isplitl [Hi]; · iexact Hi
    isplitl [Hv]; · iexact Hv
    isplitl [Hb]; · iexact Hb
    iexact Hbufs
  isplitl [Hg Ha Hc Hos Hsems]
  · isplitl [Hg]; · iexact Hg
    isplitl [Ha]; · iexact Ha
    isplitl [Hc]; · iexact Hc
    isplitl [Hos]; · iexact Hos
    iexact Hsems
  iexact HO

theorem defs₀_vector (c : Fin τ.nSC) (s : Fin τ.nSub) :
    defs₀ (F := F) (.scVector c s) 0 ()
      = SparseCore.onTile hcore0 hsub0 (fun c s => cc0__sc_gather (coordsV c s) aV (Memref.isWhole_whole _) cV' (Memref.isWhole_whole _)
          xV (Memref.isWhole_whole _) oV (Memref.isWhole_whole _) iV (Memref.isWhole_whole _) rV (Memref.isWhole_whole _) bV (Memref.isWhole_whole _)
          cc0_scratch3 cc0_scoped0 cc0_scoped1 cc0_scoped2) ⟨⟩ c s := rfl

/-- A wait recorded at no call is one the call's record allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  refine sep_mono .rfl (sep_mono .rfl (sep_mono .rfl ?_))
  iintro ⟨%W', %hW', HO⟩
  iexists W'; isplitr
  · ipureintro; exact fun p hp => (hW' p hp).imp_right Or.inl
  · iexact HO

set_option maxRecDepth 16384 in
theorem tileObl (hin : Listed (F := F) G₀ G₁) : (K (F := F)).TileObl (D (F := F)) 𝒱 (P X G₀ G₁) v₀ 0 := by
  intro d c i O W hO _ _
  simp only [show (P X G₀ G₁).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body X G₀ G₁ d (coordsV ⟨_, hci.1⟩ ⟨_, hci.2⟩) hin O W hO).trans (wp_mono frame _ _ fun _ => obl_post)

end Task

/-! ## The result's parts -/

theorem regions_disjoint (f : ℕ → ℕ) (hf : Function.Injective f) {I : Type} (g : I → ℕ) (hg : Function.Injective g) (s : Finset I) :
    ∀ i ∈ s, ∀ j ∈ s, i ≠ j → Disjoint (region (f (g i))) (region (f (g j))) := fun i _ j _ h =>
  Finset.disjoint_left.mpr fun x hx hy =>
    h (hg (hf ((Finset.mem_filter.mp hx).2.symm.trans (Finset.mem_filter.mp hy).2)))

theorem cores_disjoint {I : Type} (g : I → ℕ) (hg : Function.Injective g) (s : Finset I) :
    ∀ i ∈ s, ∀ j ∈ s, i ≠ j → Disjoint (coreRegion (g i)) (coreRegion (g j)) := fun i _ j _ h =>
  Finset.disjoint_left.mpr fun x hx hy => h (hg ((Finset.mem_filter.mp hx).2.symm.trans (Finset.mem_filter.mp hy).2))

/-- A core's part is its sixteen workers' parts. -/
theorem core_cover (c : ℕ) (hc : c < 2) :
    (Finset.univ : Finset (Fin ((K (F := F)).nSub 0))).biUnion (fun i => region (2 * i.val + c)) = coreRegion c := by
  ext x
  have hx := workerOf_lt x
  simp only [Finset.mem_biUnion, Finset.mem_univ, true_and, region, coreRegion, Finset.mem_filter]
  constructor
  · rintro ⟨i, hi⟩; omega
  · intro h; exact ⟨⟨workerOf x / 2, show _ < 16 by omega⟩, show workerOf x = 2 * (workerOf x / 2) + c by omega⟩

/-- The result is the two cores' parts. -/
theorem all_cover : (Finset.univ : Finset (Fin ((K (F := F)).nCore 0))).biUnion (fun c => coreRegion c.val) = Finset.univ := by
  ext x
  simp only [Finset.mem_biUnion, Finset.mem_univ, true_and, coreRegion, Finset.mem_filter, iff_true]
  exact ⟨⟨workerOf x % 2, Nat.mod_lt _ (by decide)⟩, rfl⟩

theorem core_split (d : Dev nD) (c : ℕ) (hc : c < 2) (f : Buf (Elt F) (oLoc d)) :
    (oLoc d ↦[coreRegion c]{fullShare} f : sProp 𝕄)
      = bigSep Finset.univ fun i : Fin ((K (F := F)).nSub 0) => oLoc d ↦[region (2 * i.val + c)]{fullShare} f := by
  rw [← pointsTo_biUnion Finset.univ (ℓ := oLoc d) (fun i : Fin ((K (F := F)).nSub 0) => region (2 * i.val + c))
    (regions_disjoint (fun n => 2 * n + c) (fun a b h => by simpa using h) _ Fin.val_injective _), core_cover c hc]

theorem all_split (d : Dev nD) (f : Buf (Elt F) (oLoc d)) :
    (oLoc d ↦{fullShare} f : sProp 𝕄)
      = bigSep Finset.univ fun c : Fin ((K (F := F)).nCore 0) => oLoc d ↦[coreRegion c.val]{fullShare} f := by
  rw [← pointsTo_biUnion Finset.univ (ℓ := oLoc d) (fun c : Fin ((K (F := F)).nCore 0) => coreRegion c.val)
    (cores_disjoint _ Fin.val_injective _), all_cover]

theorem any_parts {I : Type} (d : Dev nD) (s : Finset I) (R : I → Finset S4x8192x2.Idx) (f : Buf (Elt F) (oLoc d)) :
    (bigSep s fun i => (oLoc d ↦[R i]{fullShare} f : sProp 𝕄)) ⊢ bigSep s fun i => anyPart d (R i) :=
  bigSep_mono fun i _ => show (oLoc d ↦[R i]{fullShare} f : sProp 𝕄) ⊢ anyPart d (R i) by
    iintro H; iexists f; iexact H

/-- A core hands each worker shares of what is read and its part, and joins the parts. -/
theorem vecSplit : (K (F := F)).VecSplit' (P X G₀ G₁) 0 := by
  intro d c
  have hc : c.val < 2 := c.isLt
  show iprop(Inputs X G₀ G₁ d ∗ anyPart d (coreRegion c.val)) ⊢ |={Set.univ}=> iprop(
      (bigSep Finset.univ fun i : Fin ((K (F := F)).nSub 0) => iprop(Inputs X G₀ G₁ d ∗ anyPart d (region (2 * i.val + c.val))))
      ∗ ((bigSep Finset.univ fun i : Fin ((K (F := F)).nSub 0) => outPart X G₀ G₁ d (region (2 * i.val + c.val)))
          -∗ outPart X G₀ G₁ d (coreRegion c.val)))
  iintro ⟨HI, %f, Ho⟩
  ihave HI' := (bigSep_of_two (Inputs X G₀ G₁ d) (inputs_two X G₀ G₁ d) (Finset.univ : Finset (Fin ((K (F := F)).nSub 0)))) $$ HI
  ihave Ho' := (Entails.of_eq (core_split d c.val hc f)) $$ Ho
  imodintro
  isplitl [HI' Ho']
  · iapply (Entails.of_eq (bigSep_sep' _ _ _).symm)
    isplitl [HI']; · iexact HI'
    iapply (any_parts d _ _ f)
    iexact Ho'
  · iintro H
    iapply (Entails.of_eq (core_split d c.val hc _).symm) $$ H

/-! ## The launch's ghost state -/

def u₀ : UU := (initOf (K (F := F)).hsCells (K (F := F)).hsToks, 1)

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P X G₀ G₁).x q thr) := by
  have hx : (bigSep Finset.univ fun thr : Thread nD τ => bigSep Finset.univ fun q : Fin 1 => (P X G₀ G₁).x q thr) = (iprop(emp) : sProp 𝕄) :=
    (bigSep_congr fun _ _ => emps _).trans (emps _)
  unfold u₀
  iintro Hu
  ihave H := (ownU_pair (initOf (K (F := F)).hsCells (K (F := F)).hsToks) (1 : Counters)) $$ Hu
  icases H with ⟨HH, -⟩
  imodintro
  isplitl [HH]; · iexact HH
  rw [hx, emps]
  isplitr <;> iempintro

end Cert.Proof
-- ==== Proof.Main.lean ====
/-
  The program's main: the host's operations on the arrays, then the call. Every execution of the program ends with every
  semaphore at zero, the arguments as they were, and the result each worker's values.
-/
module

public import proofs.«01_k».proof.Proof.Launch
public import Idealize.ShloMosaic.Lib.Pipeline.FrameTail

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo (held seq seqK after seq_bind_seqK wp_seq launchContents)

variable [FloatOps F]

/-! ## The host's operations -/

/-- The operations before the call: the table flattened, each index array shifted by its image's place in the table. -/
def hostOps : List (HloOp τ sig (Elt F)) :=
  [ StableHlo.reshape main_arg0 main_v0 (rfl : (.f32 : EltTy) = .f32) shapeCasts_S4x512x512_S1048576,
    StableHlo.nullary main_v1 (iotaInDim S4 32 0),
    StableHlo.nullary main_c (constantI S_ 32 262144#32),
    StableHlo.unary main_c main_v2 (broadcastInDim S4 ![] bcast_S_S4 : (⟨S_, .i32⟩ : BufTy).Contents (Elt F) → (⟨S4, .i32⟩ : BufTy).Contents (Elt F)),
    StableHlo.binary main_v1 main_v2 main_v3 (muli : (⟨S4, .i32⟩ : BufTy).Contents (Elt F) → (⟨S4, .i32⟩ : BufTy).Contents (Elt F) → (⟨S4, .i32⟩ : BufTy).Contents (Elt F)),
    StableHlo.unary main_v3 main_v4 (broadcastInDim S4x1x1 ![0] bcast_S4_S4x1x1_0 : (⟨S4, .i32⟩ : BufTy).Contents (Elt F) → (⟨S4x1x1, .i32⟩ : BufTy).Contents (Elt F)),
    StableHlo.unary main_v4 main_v5 (broadcastInDim S4x4096x2 ![0, 1, 2] bcast_S4x1x1_S4x4096x2_0_1_2 : (⟨S4x1x1, .i32⟩ : BufTy).Contents (Elt F) → (⟨S4x4096x2, .i32⟩ : BufTy).Contents (Elt F)),
    StableHlo.binary main_arg1 main_v5 main_v6 (addi : (⟨S4x4096x2, .i32⟩ : BufTy).Contents (Elt F) → (⟨S4x4096x2, .i32⟩ : BufTy).Contents (Elt F) → (⟨S4x4096x2, .i32⟩ : BufTy).Contents (Elt F)),
    StableHlo.reshape main_v6 main_v7 (rfl : (.i32 : EltTy) = .i32) shapeCasts_S4x4096x2_S4x4x2048,
    StableHlo.unary main_v4 main_v8 (broadcastInDim S4x4096x2 ![0, 1, 2] bcast_S4x1x1_S4x4096x2_0_1_2 : (⟨S4x1x1, .i32⟩ : BufTy).Contents (Elt F) → (⟨S4x4096x2, .i32⟩ : BufTy).Contents (Elt F)),
    StableHlo.binary main_arg2 main_v8 main_v9 (addi : (⟨S4x4096x2, .i32⟩ : BufTy).Contents (Elt F) → (⟨S4x4096x2, .i32⟩ : BufTy).Contents (Elt F) → (⟨S4x4096x2, .i32⟩ : BufTy).Contents (Elt F)),
    StableHlo.reshape main_v9 main_v10 (rfl : (.i32 : EltTy) = .i32) shapeCasts_S4x4096x2_S4x4x2048 ]

theorem main_eq (d : Dev nD) : main (F := F) d = seq hostOps >>= fun _ => (K (F := F)).run d 0 >>= fun _ => pure ⟨⟩ := by
  rw [seq_bind_seqK]; rfl

theorem hostOps_bufs : ∀ op ∈ hostOps (F := F), op.bufs ⊆ Pipeline.ucRefs τ sig := by
  intro op h
  refine Pipeline.sub_ucRefs op ?_
  simp only [hostOps, List.mem_cons, List.not_mem_nil, or_false] at h
  rcases h with rfl | rfl | rfl | rfl | rfl | rfl | rfl | rfl | rfl | rfl | rfl | rfl <;> simp

theorem hostOps_fresh : ∀ op ∈ hostOps (F := F), op.fresh = ∅ := by
  intro op h
  simp only [hostOps, List.mem_cons, List.not_mem_nil, or_false] at h
  rcases h with rfl | rfl | rfl | rfl | rfl | rfl | rfl | rfl | rfl | rfl | rfl | rfl <;> rfl

variable (m : (ℓ : Loc nD τ sig) → Buf (Elt F) ℓ) (ρ : Dev nD → PrngReg)

/-- The arrays before the call; what the call reads of them. -/
def Vh (d : Dev nD) : Valuation τ sig (Elt F) := after hostOps (launchContents m d)
def Xh (d : Dev nD) : S1048576.Idx → Elt F .f32 := Vh m d (Proc.devRef .tc main_v0)
def G₀h (d : Dev nD) : S4x4x2048.Idx → Elt F .i32 := Vh m d (Proc.devRef .tc main_v7)
def G₁h (d : Dev nD) : S4x4x2048.Idx → Elt F .i32 := Vh m d (Proc.devRef .tc main_v10)

abbrev PM : (K (F := F)).Pay (nD := nD) (Val := Elt F) (Name := ℕ) (U := UU) := P (Xh m) (G₀h m) (G₁h m)

theorem Vh_arg0 (d : Dev nD) : Vh m d (Proc.devRef .tc main_arg0) = m ((SparseCore.T d).loc main_arg0) := by
  unfold Vh hostOps; after_results
theorem Vh_arg1 (d : Dev nD) : Vh m d (Proc.devRef .tc main_arg1) = m ((SparseCore.T d).loc main_arg1) := by
  unfold Vh hostOps; after_results
theorem Vh_arg2 (d : Dev nD) : Vh m d (Proc.devRef .tc main_arg2) = m ((SparseCore.T d).loc main_arg2) := by
  unfold Vh hostOps; after_results

/-! ## The arrays the call and the claims name -/

abbrev arg0Loc (d : Dev nD) : Loc nD τ sig := (SparseCore.T d).loc main_arg0
abbrev arg1Loc (d : Dev nD) : Loc nD τ sig := (SparseCore.T d).loc main_arg1
abbrev arg2Loc (d : Dev nD) : Loc nD τ sig := (SparseCore.T d).loc main_arg2

def named : Finset (DevRef τ sig) :=
  {Proc.devRef .tc main_arg0, Proc.devRef .tc main_arg1, Proc.devRef .tc main_arg2, Proc.devRef .tc main_v0, Proc.devRef .tc main_v7,
    Proc.devRef .tc main_v10, Proc.devRef .tc main_v11}

theorem named_sub : named ⊆ Pipeline.ucRefs τ sig := by
  intro b h
  simp only [named, Finset.mem_insert, Finset.mem_singleton] at h
  rcases h with rfl | rfl | rfl | rfl | rfl | rfl | rfl <;> exact Pipeline.devRef_mem_ucRefs rfl

theorem held_named (d : Dev nD) (V : Valuation τ sig (Elt F)) :
    (held (SparseCore.T d) named V : sProp 𝕄)
      = iprop((arg0Loc d ↦{fullShare} V (Proc.devRef .tc main_arg0)) ∗ (arg1Loc d ↦{fullShare} V (Proc.devRef .tc main_arg1))
          ∗ (arg2Loc d ↦{fullShare} V (Proc.devRef .tc main_arg2)) ∗ (xLoc d ↦{fullShare} V (Proc.devRef .tc main_v0))
          ∗ (g₀Loc d ↦{fullShare} V (Proc.devRef .tc main_v7)) ∗ (g₁Loc d ↦{fullShare} V (Proc.devRef .tc main_v10))
          ∗ (oLoc d ↦{fullShare} V (Proc.devRef .tc main_v11))) := by
  unfold held named
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! ## The run -/

/-- What main leaves: the arguments as they were, the result. -/
abbrev FIN (d : Dev nD) : sProp 𝕄 := iprop((arg0Loc d ↦{fullShare} m (arg0Loc d)) ∗ (arg1Loc d ↦{fullShare} m (arg1Loc d))
  ∗ (arg2Loc d ↦{fullShare} m (arg2Loc d)) ∗ (oLoc d ↦{fullShare} outOf (Xh m d) (G₀h m d) (G₁h m d)))

/-- What the cores are handed, from the arrays whole. -/
theorem cores_start (d : Dev nD) (f : Buf (Elt F) (oLoc d)) :
    (iprop((xLoc d ↦{fullShare} Xh m d) ∗ (g₀Loc d ↦{fullShare} G₀h m d) ∗ (g₁Loc d ↦{fullShare} G₁h m d) ∗ (oLoc d ↦{fullShare} f)) : sProp 𝕄)
      ⊢ bigSep Finset.univ fun c : Fin ((K (F := F)).nCore 0) => (PM m).st 0 d c := by
  show _ ⊢ bigSep Finset.univ fun c : Fin ((K (F := F)).nCore 0) => iprop(Inputs (Xh m) (G₀h m) (G₁h m) d ∗ anyPart d (coreRegion c.val))
  iintro ⟨Hx, H₀, H₁, Ho⟩
  ihave Ho' := ((Entails.of_eq (all_split d f)).trans (any_parts d _ _ f)) $$ Ho
  iapply (Entails.of_eq (bigSep_sep' _ _ _).symm)
  isplitr [Ho']
  · iapply (bigSep_of_two (Inputs (Xh m) (G₀h m) (G₁h m) d) (inputs_two _ _ _ d) _)
    unfold Inputs
    isplitl [Hx]; · iexists fullShare; iexact Hx
    isplitl [H₀]; · iexists fullShare; iexact H₀
    iexists fullShare; iexact H₁
  · iexact Ho'

theorem cores_done (d : Dev nD) :
    (bigSep Finset.univ fun c : Fin ((K (F := F)).nCore 0) => (PM m).dn 0 d c)
      ⊢ (oLoc d ↦{fullShare} outOf (Xh m d) (G₀h m d) (G₁h m d) : sProp 𝕄) := Entails.of_eq (all_split d _).symm

theorem hmain (κ : GSem nD τ sig → ℕ) (d : Dev nD) :
    iprop((K (F := F)).ctx EH (PM m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (d.tc : Thread nD τ) (Pipeline.ucRefs τ sig) (launchContents m d) from
    Pipeline.unscopedBufs_held d (launchContents m d), main_eq]
  iintro ⟨#Hctx, Hst, ⟨Hb, Hheld, Hts, -⟩, -⟩
  iapply (wp_seq 𝒱 none Set.univ d (Pipeline.ucRefs τ sig) _ hostOps hostOps_bufs hostOps_fresh (launchContents m d)) $$ [Hb Hheld]
  · isplitl [Hb] <;> iassumption
  iintro ⟨Hb, Hheld⟩
  ihave Hh := (show (held (d.tc : Thread nD τ) (Pipeline.ucRefs τ sig) (after hostOps (launchContents m d)) : sProp 𝕄)
      ⊢ iprop(held (SparseCore.T d) named (Vh m d) ∗ held (SparseCore.T d) (Pipeline.ucRefs τ sig \ named) (Vh m d)) from
    Entails.of_eq (StableHlo.held_sub_split (SparseCore.T d) named_sub (Vh m d))) $$ Hheld
  icases Hh with ⟨Hn, -⟩
  ihave Hn' := (Entails.of_eq (held_named d (Vh m d))) $$ Hn
  rw [Vh_arg0, Vh_arg1, Vh_arg2]
  icases Hn' with ⟨H0, H1, H2, Hx, Hg₀, Hg₁, Ho⟩
  simp only [wp_bind, wp_pure]
  iapply ((K (F := F)).wp_run (D (F := F)) 𝒱 (EH := EH) (P := PM m) κ d 0) $$ [Hst Hx Hg₀ Hg₁ Ho Hb Hts H0 H1 H2]
  isplitr; · iexact Hctx
  isplitl [Hst]; · iexact Hst
  isplitl [Hx Hg₀ Hg₁ Ho]
  · iapply (cores_start m d (Vh m d (Proc.devRef .tc main_v11)))
    isplitl [Hx]; · iexact Hx
    isplitl [Hg₀]; · iexact Hg₀
    isplitl [Hg₁]; · iexact Hg₁
    iexact Ho
  iintro ⟨Hst, Hdn⟩
  ihave Ho := (cores_done m d) $$ Hdn
  imodintro
  isplitl [Hst]; · iexact Hst
  isplitr [Hb Hts]
  · isplitl [H0]; · iexact H0
    isplitl [H1]; · iexact H1
    isplitl [H2]; · iexact H2
    iexact Ho
  isplitl [Hb] <;> iassumption

/-- What the claims read of a device's final memory. -/
def fq (d : Dev nD) (s' : Phys nD τ sig (Elt F)) : Prop :=
  s'.mem.mem (oLoc d) = outOf (Xh m d) (G₀h m d) (G₁h m d) ∧ s'.mem.mem (arg0Loc d) = m (arg0Loc d)
    ∧ s'.mem.mem (arg1Loc d) = m (arg1Loc d) ∧ s'.mem.mem (arg2Loc d) = m (arg2Loc d)

/-- An array held whole is what memory has there. -/
theorem mem_eq (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨H0, H1, H2, Ho⟩, HSI⟩
  ihave H := (mem_eq s' (arg0Loc d) (m (arg0Loc d))) $$ [H0 HSI]
  · isplitl [H0] <;> iassumption
  icases H with ⟨%h0, HSI⟩
  ihave H := (mem_eq s' (arg1Loc d) (m (arg1Loc d))) $$ [H1 HSI]
  · isplitl [H1] <;> iassumption
  icases H with ⟨%h1, HSI⟩
  ihave H := (mem_eq s' (arg2Loc d) (m (arg2Loc d))) $$ [H2 HSI]
  · isplitl [H2] <;> iassumption
  icases H with ⟨%h2, HSI⟩
  ihave H := (mem_eq s' (oLoc d) (outOf (Xh m d) (G₀h m d) (G₁h m d))) $$ [Ho HSI]
  · isplitl [Ho] <;> iassumption
  icases H with ⟨%ho, -⟩
  ipureintro; exact ⟨ho, h0, h1, h2⟩

/-- What a final memory is. -/
def QC : PUnit × MemSt nD τ sig (Elt F) → Prop := fun r =>
  (∀ c : Dev nD, r.2.mem (oLoc c) = outOf (Xh m c) (G₀h m c) (G₁h m c) ∧ r.2.mem (arg0Loc c) = m (arg0Loc c)
    ∧ r.2.mem (arg1Loc c) = m (arg1Loc c) ∧ r.2.mem (arg2Loc c) = m (arg2Loc c)) ∧ r.2.sem = fun _ => 0

theorem run_main [∀ e, Nonempty (Elt F e)] (hin : Listed (F := F) (G₀h m) (G₁h m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (Xh m) (G₀h m) (G₁h m) hin)
    (fun q _ => match q with | 0 => SparseCore.Cfg.VecSplit.of_plain (vecSplit (Xh m) (G₀h m) (G₁h m)))
    m ρ main (fun _ => iprop(emp)) (FIN m) (u₀ (F := F)) (sep_elim_left.trans (hu₀ (Xh m) (G₀h m) (G₁h m))) (hmain m ρ) (fq m) (hfin m) (QC m)
    (fun _ h hz => ⟨h, hz⟩)

end Cert.Proof
-- ==== Proof.Value.lean ====
/-
  What the call is given, entry by entry, in terms of the program's arguments: the flattened table, and the two index arrays
  with each entry shifted to its image's place in that table. Under the precondition every shifted entry names an entry of
  the table, and the call's result is the plain specification `specOf`.
-/
module

public import proofs.«01_k».proof.Proof.Main
public import proofs.«01_k».proof.Proof.Gen.Pre_in_range
public import Idealize.ShloMosaic.Lib.Pipeline.Value
public import Idealize.ShloMosaic.Lib.ReduceAll

@[expose] public section

noncomputable section

namespace Cert.Proof

open Cert.KernelIdeal Cert.KernelIdeal.Gen

open Idealize.ShloMosaic
open Idealize.ShloMosaic.Tactic
open Idealize.ShloMosaic.StableHlo (held seq seqK after seq_bind_seqK wp_seq launchContents)

variable {F : FTy → Type} [FloatOps F]

/-! ## The specification -/

/-- Entry `(b, n, k)` of an index array. -/
def atC (b n k : ℕ) : S4x4096x2.Idx := fun
  | 0 => ⟨b % 4, Nat.mod_lt _ (by decide)⟩
  | 1 => ⟨n % 4096, Nat.mod_lt _ (by decide)⟩
  | 2 => ⟨k % 2, Nat.mod_lt _ (by decide)⟩

/-- Position `v`, in row-major order, of image `b`. -/
def atA (b v : ℕ) : S4x512x512.Idx := fun
  | 0 => ⟨b % 4, Nat.mod_lt _ (by decide)⟩
  | 1 => ⟨v / 512 % 512, Nat.mod_lt _ (by decide)⟩
  | 2 => ⟨v % 512, Nat.mod_lt _ (by decide)⟩

/-- The index that entry `j` of the result reads. -/
def cofOf (C₀ C₁ : S4x4096x2.Idx → BitVec 32) (j : S4x8192x2.Idx) : BitVec 32 :=
  (if (j 1).val / 4096 = 0 then C₀ else C₁) (atC (j 0).val ((j 1).val % 4096) (j 2).val)

/-- The result: at `(b, n, k)` the entry of image `b` that the first index array names for `n < 4096`, the second from there. -/
def specOf (A : S4x512x512.Idx → Elt F .f32) (C₀ C₁ : S4x4096x2.Idx → BitVec 32) (j : S4x8192x2.Idx) : Elt F .f32 :=
  A (atA (j 0).val (cofOf C₀ C₁ j).toNat)

/-! ## The precondition -/

/-- Every entry names a position of an image. -/
def InImage (C : S4x4096x2.Idx → BitVec 32) : Prop := ∀ i, (C i).toNat < 262144

theorem ofBool_one {p : Bool} (h : BitVec.ofBool p = 1#1) : p = true := by
  cases p
  · exact absurd h (by decide)
  · rfl

/-- A word that is at least 0 and below 262144 as a signed word is below 262144 as a natural number. -/
theorem word_in_image {v : BitVec 32} (h0 : IntOp.cmpi .sge v 0#32 = 1#1) (h1 : IntOp.cmpi .slt v 262144#32 = 1#1) : v.toNat < 262144 := by
  have e0 := ofBool_one h0
  have e1 := ofBool_one h1
  simp only [BitVec.sle_eq_decide, BitVec.slt_eq_decide, decide_eq_true_eq, BitVec.toInt_eq_toNat_cond, BitVec.toNat_ofNat,
    Nat.reducePow, Nat.reduceMod] at e0 e1
  omega

instance : Subsingleton Cert.Pre_in_range.S_.Idx := ⟨fun a b => funext fun i => i.elim0⟩

theorem inImage_of_pre {A : FVec F S4x512x512 .f32} {C₀ C₁ : S4x4096x2.Idx → BitVec 32}
    (h : Cert.Pre_in_range.fn (F := F) A C₀ C₁ = fun _ => 1#1) : InImage C₀ ∧ InImage C₁ := by
  have e := congrFun h (fun i => i.elim0)
  obtain ⟨e, e4⟩ := IntOp.andi_eq_one.1 e
  obtain ⟨e, e3⟩ := IntOp.andi_eq_one.1 e
  obtain ⟨e1, e2⟩ := IntOp.andi_eq_one.1 e
  exact ⟨fun i => word_in_image (Host.reduce_andi_all _ _ _ _ _ e1 i) (Host.reduce_andi_all _ _ _ _ _ e2 i),
    fun i => word_in_image (Host.reduce_andi_all _ _ _ _ _ e3 i) (Host.reduce_andi_all _ _ _ _ _ e4 i)⟩

/-! ## The host's arrays -/

/-- The place of each entry's image in the flattened table. -/
def shift : S4x4096x2.Idx → BitVec 32 :=
  broadcastInDim S4x4096x2 ![0, 1, 2] bcast_S4x1x1_S4x4096x2_0_1_2 (broadcastInDim S4x1x1 ![0] bcast_S4_S4x1x1_0
    (muli (iotaInDim S4 32 0) (broadcastInDim S4 ![] bcast_S_S4 (constantI S_ 32 262144#32))))

theorem shift_apply (i : S4x4096x2.Idx) : shift i = BitVec.ofNat 32 ((i 0).val * 262144) := by
  have h : (i 0).val < 4 := (i 0).isLt
  unfold shift
  let k : S4x1x1.Idx := fun | 0 => ⟨(i 0).val, h⟩ | 1 => ⟨0, by decide⟩ | 2 => ⟨0, by decide⟩
  let k' : S4.Idx := fun | 0 => ⟨(i 0).val, h⟩
  rw [broadcastInDim_apply (k := k) (hk := fun | 0 => rfl | 1 => rfl | 2 => rfl),
    broadcastInDim_apply (k := k') (hk := fun | 0 => rfl)]
  show BitVec.ofNat 32 (i 0).val * 262144#32 = _
  rw [BitVec.ofNat_mul]

variable (m : (ℓ : Loc nD τ sig) → Buf (Elt F) ℓ)

theorem Xh_eq (d : Dev nD) : Xh m d = shapeCast S1048576 (m (arg0Loc d)) shapeCasts_S4x512x512_S1048576 := by
  unfold Xh Vh hostOps; after_results; rfl
theorem G₀h_eq (d : Dev nD) : G₀h m d = shapeCast S4x4x2048 (addi (m (arg1Loc d)) shift) shapeCasts_S4x4096x2_S4x4x2048 := by
  unfold G₀h Vh hostOps; after_results; rfl
theorem G₁h_eq (d : Dev nD) : G₁h m d = shapeCast S4x4x2048 (addi (m (arg2Loc d)) shift) shapeCasts_S4x4096x2_S4x4x2048 := by
  unfold G₁h Vh hostOps; after_results; rfl

theorem flat_apply {A : S4x512x512.Idx → Elt F .f32} {b v : ℕ} (hb : b < 4) (hv : v < 262144) :
    shapeCast S1048576 A shapeCasts_S4x512x512_S1048576 (at1 (v + b * 262144)) = A (atA b v) := by
  refine shapeCast_apply _ _ _ _ ?_
  rw [Shape.rowMajor_val_three, Shape.rowMajor_val_one]
  show (b % 4 * 512 + v / 512 % 512) * 512 + v % 512 = (v + b * 262144) % 1048576
  omega

/-- A shifted array, laid out as each worker's row: element `e` of row `(b, q)` is entry `e % 2` of pair `1024 q + e / 2`. -/
theorem shifted_apply {C : S4x4096x2.Idx → BitVec 32} (hC : InImage C) {b q e : ℕ} (hb : b < 4) (hq : q < 4) (he : e < 2048) :
    (shapeCast S4x4x2048 (addi C shift) shapeCasts_S4x4096x2_S4x4x2048 (at3 b q e)).toNat
      = (C (atC b (1024 * q + e / 2) e)).toNat + b * 262144 := by
  rw [shapeCast_apply _ _ _ (atC b (1024 * q + e / 2) e) (by
    rw [Shape.rowMajor_val_three, Shape.rowMajor_val_three]
    show (b % 4 * 4096 + (1024 * q + e / 2) % 4096) * 2 + e % 2 = (b % 4 * 4 + q % 4) * 2048 + e % 2048
    omega)]
  have h := hC (atC b (1024 * q + e / 2) e)
  show (C _ + shift _).toNat = _
  rw [shift_apply, show ((atC b (1024 * q + e / 2) e) 0).val = b from Nat.mod_eq_of_lt hb, BitVec.toNat_add, BitVec.toNat_ofNat]
  omega

/-- The entry of a worker's list, as the argument's entry and its image's place. -/
theorem listOf_apply (d : Dev nD) (h₀ : InImage (m (arg1Loc d))) (h₁ : InImage (m (arg2Loc d))) (w : ℕ) (i : S2048.Idx) :
    BitVec.toNat (listOf (F := F) (G₀h m d) (G₁h m d) w i)
      = BitVec.toNat ((if w / 16 = 0 then m (arg1Loc d) else m (arg2Loc d)) (atC (w % 16 / 4) (1024 * (w % 4) + (i 0).val / 2) (i 0).val))
        + w % 16 / 4 * 262144 := by
  have hi : (i 0).val < 2048 := (i 0).isLt
  unfold listOf
  rw [G₀h_eq, G₁h_eq]
  split
  · exact shifted_apply h₀ (by omega) (by omega) hi
  · exact shifted_apply h₁ (by omega) (by omega) hi

/-- Every entry of every worker's list names an entry of the table. -/
theorem listed (h : ∀ d, InImage (m (arg1Loc d)) ∧ InImage (m (arg2Loc d))) : Listed (F := F) (G₀h m) (G₁h m) := by
  intro d w i
  rw [listOf_apply m d (h d).1 (h d).2]
  split
  · have := (h d).1 (atC (w % 16 / 4) (1024 * (w % 4) + (i 0).val / 2) (i 0).val); omega
  · have := (h d).2 (atC (w % 16 / 4) (1024 * (w % 4) + (i 0).val / 2) (i 0).val); omega

/-- The call's result is the specification of the arguments. -/
theorem outOf_eq (d : Dev nD) (h₀ : InImage (m (arg1Loc d))) (h₁ : InImage (m (arg2Loc d))) :
    outOf (Xh m d) (G₀h m d) (G₁h m d) = specOf (m (arg0Loc d)) (m (arg1Loc d)) (m (arg2Loc d)) := by
  funext j
  have j0 : (j 0).val < 4 := (j 0).isLt
  have j1 : (j 1).val < 8192 := (j 1).isLt
  have j2 : (j 2).val < 2 := (j 2).isLt
  unfold outOf valsOf
  rw [listOf_apply m d h₀ h₁, Xh_eq, atL_val (by omega)]
  have e1 : workerOf j / 16 = (j 1).val / 4096 := by unfold workerOf; omega
  have e2 : workerOf j % 16 / 4 = (j 0).val := by unfold workerOf; omega
  have e3 : atC (workerOf j % 16 / 4) (1024 * (workerOf j % 4) + (2 * ((j 1).val % 1024) + (j 2).val) / 2) (2 * ((j 1).val % 1024) + (j 2).val)
      = atC (j 0).val ((j 1).val % 4096) (j 2).val := by
    have a : 1024 * (workerOf j % 4) + (2 * ((j 1).val % 1024) + (j 2).val) / 2 = (j 1).val % 4096 := by unfold workerOf; omega
    have b : (2 * ((j 1).val % 1024) + (j 2).val) % 2 = (j 2).val % 2 := by omega
    rw [e2, a]
    unfold atC
    simp only [b]
  rw [e3, e1, e2]
  refine flat_apply j0 ?_
  split
  · exact h₀ _
  · exact h₁ _

end Cert.Proof

end
-- ==== Proof.Reference.lean ====
/-
  The reference's result, entry by entry: each half takes from every image, flattened, the entries its index array names.
  Under the precondition no index is moved or masked on the way, and the two halves side by side are the specification
  `specOf`.
-/
module

public import proofs.«01_k».proof.Proof.Value
public import proofs.«01_k».proof.Proof.Gen.ReferenceIdeal.Run

@[expose] public section

noncomputable section

namespace Cert.Proof

open Cert.ReferenceIdeal Cert.ReferenceIdeal.Gen

open Idealize.ShloMosaic
open Idealize.ShloMosaic.TcCoe

variable {F : FTy → Type} [FloatOps F]

/-! ## Words in range -/

theorem slt_zero {v : BitVec 32} (h : v.toNat < 262144) : IntOp.cmpi .slt v 0#32 = 0#1 := by
  have : v.slt 0#32 = false := by
    simp only [BitVec.slt_eq_decide, decide_eq_false_iff_not, BitVec.toInt_eq_toNat_cond, BitVec.toNat_ofNat, Nat.reducePow, Nat.reduceMod]
    omega
  show BitVec.ofBool (v.slt 0#32) = _
  rw [this]; rfl

theorem sge_zero {v : BitVec 32} (h : v.toNat < 262144) : IntOp.cmpi .sge v 0#32 = 1#1 := by
  have : (0#32).sle v = true := by
    simp only [BitVec.sle_eq_decide, decide_eq_true_eq, BitVec.toInt_eq_toNat_cond, BitVec.toNat_ofNat, Nat.reducePow, Nat.reduceMod]
    omega
  show BitVec.ofBool ((0#32).sle v) = _
  rw [this]; rfl

theorem sle_last {v : BitVec 32} (h : v.toNat < 262144) : IntOp.cmpi .sle v 262143#32 = 1#1 := by
  have : v.sle 262143#32 = true := by
    simp only [BitVec.sle_eq_decide, decide_eq_true_eq, BitVec.toInt_eq_toNat_cond, BitVec.toNat_ofNat, Nat.reducePow, Nat.reduceMod]
    omega
  show BitVec.ofBool (v.sle 262143#32) = _
  rw [this]; rfl

/-! ## One half -/

/-- An index array with each image's pairs laid out in a row. -/
def rowsOf (C : S4x4096x2.Idx → BitVec 32) : S4x8192.Idx → BitVec 32 := shapeCast _ C shapeCasts_S4x4096x2_S4x8192

/-- The starts the gather is given: a negative index counted from the image's end. -/
def startsOf (C : S4x4096x2.Idx → BitVec 32) : S4x8192x1.Idx → BitVec 32 :=
  shapeCast _ (select (cmpi .slt (rowsOf C) (broadcastInDim S4x8192 ![] bcast_S_S4x8192 (constantI S_ 32 0#32)))
    (addi (rowsOf C) (broadcastInDim S4x8192 ![] bcast_S_S4x8192 (constantI S_ 32 262144#32))) (rowsOf C)) shapeCasts_S4x8192_S4x8192x1

/-- Where the starts are inside the image. -/
def insideOf (C : S4x4096x2.Idx → BitVec 32) : S4x8192.Idx → BitVec 1 :=
  Host.reduce IntOp.andi (andi (cmpi .sge (startsOf C) (broadcastInDim S4x8192x1 ![] bcast_S_S4x8192x1 (constantI S_ 32 0#32)))
    (cmpi .sle (startsOf C) (broadcastInDim S4x8192x1 ![0, 1, 2] bcast_S1x1x1_S4x8192x1_0_1_2
      (broadcastInDim S1x1x1 ![2] bcast_S1_S1x1x1_2 (constantI S1 32 262143#32)))))
    (constantI S_ 1 1#1) reducesTo_S4x8192x1_S4x8192_d2 h_S_

/-- One half of the result: the entries taken where the start is inside, the filler elsewhere. -/
def takenOf (A : S4x512x512.Idx → Elt F .f32) (C : S4x4096x2.Idx → BitVec 32) : S4x4096x2.Idx → Elt F .f32 :=
  shapeCast _ (select (insideOf C)
    (Host.gather gather_S4x262144_S4x8192x1_S4x8192_n_1_0_0_1_2_11 (shapeCast _ A shapeCasts_S4x512x512_S4x262144) (startsOf C))
    (broadcastInDim S4x8192 ![] bcast_S_S4x8192 (constant S_ .f32 0x7FC00000#32))) shapeCasts_S4x8192_S4x4096x2

theorem res_eq (m : (ℓ : Loc nD τ sig) → Buf (Elt F) ℓ) (c : Dev nD) :
    Value.res_out0 m c = concatenate S4x8192x2 1
      [⟨S4x4096x2, takenOf (m (c.tc.loc main_arg0)) (m (c.tc.loc main_arg1))⟩, ⟨S4x4096x2, takenOf (m (c.tc.loc main_arg0)) (m (c.tc.loc main_arg2))⟩]
      concatenates_S4x4096x2_S4x4096x2_S4x8192x2_d1 := rfl

theorem starts_apply {C : S4x4096x2.Idx → BitVec 32} (hC : InImage C) (i : S4x8192x1.Idx) :
    startsOf C i = C (atC (i 0).val ((i 1).val / 2) (i 1).val) := by
  have i0 : (i 0).val < 4 := (i 0).isLt
  have i1 : (i 1).val < 8192 := (i 1).isLt
  have i2 : (i 2).val < 1 := (i 2).isLt
  let k : S4x8192.Idx := fun | 0 => ⟨(i 0).val, i0⟩ | 1 => ⟨(i 1).val, i1⟩
  have hk : rowsOf C k = C (atC (i 0).val ((i 1).val / 2) (i 1).val) := by
    refine shapeCast_apply _ _ _ _ ?_
    rw [Shape.rowMajor_val_three, Shape.rowMajor_val_two]
    show ((i 0).val % 4 * 4096 + (i 1).val / 2 % 4096) * 2 + (i 1).val % 2 = (i 0).val * 8192 + (i 1).val
    omega
  unfold startsOf
  rw [shapeCast_apply _ _ _ k (by
    rw [Shape.rowMajor_val_three, Shape.rowMajor_val_two]
    show (i 0).val * 8192 + (i 1).val = ((i 0).val * 8192 + (i 1).val) * 1 + (i 2).val
    omega)]
  have hs : cmpi .slt (rowsOf C) (broadcastInDim S4x8192 ![] bcast_S_S4x8192 (constantI S_ 32 0#32)) k = 0#1 := by
    show IntOp.cmpi .slt (rowsOf C k) 0#32 = 0#1
    rw [hk]
    exact slt_zero (hC _)
  rw [← hk]
  show Scalar.select (cmpi .slt (rowsOf C) _ k) _ (rowsOf C k) = _
  rw [hs]
  rfl

theorem inside_apply {C : S4x4096x2.Idx → BitVec 32} (hC : InImage C) (j : S4x8192.Idx) : insideOf C j = 1#1 := by
  refine Host.reduce_andi_one _ _ _ _ _ rfl fun i => IntOp.andi_eq_one.2 ⟨?_, ?_⟩
  · show IntOp.cmpi .sge (startsOf C i) 0#32 = 1#1
    rw [starts_apply hC]
    exact sge_zero (hC _)
  · show IntOp.cmpi .sle (startsOf C i) 262143#32 = 1#1
    rw [starts_apply hC]
    exact sle_last (hC _)

/-- The gather's axes: row `b` for row `b`, one position of the row. -/
abbrev GD := gather_S4x262144_S4x8192x1_S4x8192_n_1_0_0_1_2_11

/-- The gather at `(b, p)`: position `s (b, p)` of row `b`. -/
theorem gather_apply {x : S4x262144.Idx → Elt F .f32} {s : S4x8192x1.Idx → BitVec 32} (j : S4x8192.Idx) (k : S4x262144.Idx) (l : S4x8192x1.Idx)
    (hl0 : (l 0).val = (j 0).val) (hl1 : (l 1).val = (j 1).val) (hs : (s l).toNat < 262144)
    (h0 : (k 0).val = (j 0).val) (h1 : (k 1).val = (s l).toNat) :
    Host.gather GD x s j = x k := by
  have hin : ∀ {n : ℕ} (a : Fin n), a ∈ [a] := fun a => List.mem_singleton.2 rfl
  have hv : ((s l).toInt.toNat) = (s l).toNat := by rw [BitVec.toInt_eq_toNat_cond]; omega
  refine congrArg x (funext fun | 0 => Fin.ext ?_ | 1 => Fin.ext ?_)
  · rw [h0]
    show GD.start j s 0 + GD.batchCoord j 0 + GD.offCoord j 0 = _
    rw [GD.start_batching j s 0 (hin _), GD.offCoord_eq_zero j 0 fun h => ((GD.mem_sKept 0).1 h).2 (hin _)]
    unfold GatherDims.batchCoord
    rw [dif_pos (show 0 ∈ GD.operandBatchingDims from hin _), Nat.zero_add, Nat.add_zero]
    rfl
  · rw [h1]
    show GD.start j s 1 + GD.batchCoord j 1 + GD.offCoord j 1 = _
    rw [GD.batchCoord_eq_zero j 1 (GD.sim_disjoint 1 (hin _)), GD.offCoord_eq_zero j 1 fun h => ((GD.mem_sKept 1).1 h).1 (hin _)]
    unfold GatherDims.start
    rw [dif_pos (show 1 ∈ GD.startIndexMap from hin _)]
    have e (c) : GD.siIdx j c = l := funext fun | 0 => Fin.ext hl0.symm | 1 => Fin.ext hl1.symm | 2 => Subsingleton.elim (α := Fin 1) _ _
    rw [e, hv]
    show min (s l).toNat 262143 + 0 + 0 = _
    omega

theorem taken_apply {A : S4x512x512.Idx → Elt F .f32} {C : S4x4096x2.Idx → BitVec 32} (hC : InImage C) (i : S4x4096x2.Idx) :
    takenOf A C i = A (atA (i 0).val (C i).toNat) := by
  have i0 : (i 0).val < 4 := (i 0).isLt
  have i1 : (i 1).val < 4096 := (i 1).isLt
  have i2 : (i 2).val < 2 := (i 2).isLt
  have hp : 2 * (i 1).val + (i 2).val < 8192 := by omega
  let j : S4x8192.Idx := fun | 0 => ⟨(i 0).val, i0⟩ | 1 => ⟨2 * (i 1).val + (i 2).val, hp⟩
  let l : S4x8192x1.Idx := fun | 0 => ⟨(i 0).val, i0⟩ | 1 => ⟨2 * (i 1).val + (i 2).val, hp⟩ | 2 => ⟨0, by decide⟩
  let k : S4x262144.Idx := fun | 0 => ⟨(i 0).val, i0⟩ | 1 => ⟨(C i).toNat, hC i⟩
  have hl : startsOf C l = C i := by
    rw [starts_apply hC]
    refine congrArg C (funext fun | 0 => Fin.ext ?_ | 1 => Fin.ext ?_ | 2 => Fin.ext ?_)
    · show (i 0).val % 4 = (i 0).val; omega
    · show (2 * (i 1).val + (i 2).val) / 2 % 4096 = (i 1).val; omega
    · show (2 * (i 1).val + (i 2).val) % 2 = (i 2).val; omega
  unfold takenOf
  rw [shapeCast_apply _ _ _ j (by
    rw [Shape.rowMajor_val_three, Shape.rowMajor_val_two]
    show (i 0).val * 8192 + (2 * (i 1).val + (i 2).val) = ((i 0).val * 4096 + (i 1).val) * 2 + (i 2).val
    omega)]
  have hg := gather_apply (F := F) (x := shapeCast _ A shapeCasts_S4x512x512_S4x262144) (s := startsOf C) j k l rfl rfl (by rw [hl]; exact hC i) rfl (by rw [hl])
  show Scalar.select (insideOf C j) (Host.gather _ _ _ j) _ = _
  rw [inside_apply hC, hg]
  refine shapeCast_apply _ _ _ _ ?_
  have := hC i
  rw [Shape.rowMajor_val_three, Shape.rowMajor_val_two]
  show ((i 0).val % 4 * 512 + (C i).toNat / 512 % 512) * 512 + (C i).toNat % 512 = (i 0).val * 262144 + (C i).toNat
  omega

/-- The reference's result is the specification of its arguments. -/
theorem res_spec (m : (ℓ : Loc nD τ sig) → Buf (Elt F) ℓ) (c : Dev nD) (h₁ : InImage (m (c.tc.loc main_arg1))) (h₂ : InImage (m (c.tc.loc main_arg2))) :
    Value.res_out0 m c = specOf (m (c.tc.loc main_arg0)) (m (c.tc.loc main_arg1)) (m (c.tc.loc main_arg2)) := by
  rw [res_eq]
  funext j
  have j0 : (j 0).val < 4 := (j 0).isLt
  have j1 : (j 1).val < 8192 := (j 1).isLt
  have j2 : (j 2).val < 2 := (j 2).isLt
  have e0 : (atC (j 0).val ((j 1).val % 4096) (j 2).val 0).val = (j 0).val := Nat.mod_eq_of_lt j0
  have e1 : (atC (j 0).val ((j 1).val % 4096) (j 2).val 1).val = (j 1).val % 4096 := Nat.mod_mod _ _
  have e2 : (atC (j 0).val ((j 1).val % 4096) (j 2).val 2).val = (j 2).val := Nat.mod_eq_of_lt j2
  unfold specOf cofOf
  by_cases hj : (j 1).val / 4096 = 0
  · rw [if_pos hj]
    refine (concatenate_pair_apply_left (t := S4x8192x2) (s₁ := S4x4096x2) (s₂ := S4x4096x2) 1 _ _ _ j rfl (atC (j 0).val ((j 1).val % 4096) (j 2).val)
      (fun | 0 => e0 | 1 => e1.trans (Nat.mod_eq_of_lt (by omega)) | 2 => e2)).trans ?_
    rw [taken_apply h₁, e0]
  · rw [if_neg hj]
    refine (concatenate_pair_apply_right (t := S4x8192x2) (s₁ := S4x4096x2) (s₂ := S4x4096x2) 1 _ _ _ j rfl rfl (atC (j 0).val ((j 1).val % 4096) (j 2).val)
      (fun | 0, _ => e0 | 1, h => absurd rfl h | 2, _ => e2) ?_).trans ?_
    · show (atC (j 0).val ((j 1).val % 4096) (j 2).val 1).val + 4096 = (j 1).val
      rw [e1]; omega
    · rw [taken_apply h₂, e0]

end Cert.Proof

end
-- ==== Proof.lean ====
/-
  The certificate's claims, from the program's run (`run_main`), what it is given (`listed`, `outOf_eq`) and the reference's
  result (`res_spec`).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Reference
public import Idealize.ShloMosaic.Adequacy
public import Idealize.ShloMosaic.Init

@[expose] public section

noncomputable section

namespace Cert.Proof

open Idealize.ShloMosaic Idealize.ShloMosaic.TcCoe Idealize.SL.Sem

theorem frame_kernel : Cert.quiescent_Kernel := fun m ρ hpre =>
  (θ_run Cert.KernelIdeal.defs _ _).mono (fun _ h => ⟨fun c => (h.1 c).2, h.2⟩)
    (run_main (F := Bits) m ρ (listed m fun d => inImage_of_pre (hpre d)))

theorem frame_ideal : Cert.quiescent_KernelIdeal := fun m ρ hpre =>
  (θ_run Cert.KernelIdeal.defs _ _).mono (fun _ h => ⟨fun c => (h.1 c).2, h.2⟩)
    (run_main (F := Ideal) m ρ (listed m fun d => inImage_of_pre (hpre d)))

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- Both programs end with the specification of the arguments. -/
theorem algebraic : Cert.algebraic_KernelIdeal_ReferenceIdeal := fun m ρ m' ρ' hpre hm => by
  have hin (d) := inImage_of_pre (hpre d)
  refine ⟨fun c => specOf (m (arg0Loc c)) (m (arg1Loc c)) (m (arg2Loc c)), ?_, ?_⟩
  · exact (θ_run Cert.KernelIdeal.defs _ _).mono
      (fun _ h c => ⟨(h.1 c).1.trans (outOf_eq m c (hin c).1 (hin c).2), (h.1 c).2⟩) (run_main (F := Ideal) m ρ (listed m hin))
  · refine (θ_run Cert.ReferenceIdeal.defs _ _).mono (fun _ h c => ⟨(h c).1.trans ?_, (h c).2⟩) (Cert.ReferenceIdeal.Value.run m' ρ')
    obtain ⟨e0, e1, e2⟩ := hm c
    refine (res_spec m' c (by rw [e1]; exact (hin c).1) (by rw [e2]; exact (hin c).2)).trans ?_
    rw [e0, e1, e2]

theorem claim : Cert.Claim :=
  ⟨Cert.Kernel.Gen.facts, Cert.KernelIdeal.Gen.facts, Cert.ReferenceIdeal.Gen.facts, Cert.Pre_in_range.Gen.facts,
    frame_kernel, frame_ideal, frame_reference, trivial, algebraic⟩

end Cert.Proof

end
